-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 1024]⟩ ⟨3, ![2, 512, 1024]⟩ (Layout.meshBlock [2, 2, 4] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![512, 1024]⟩ (Layout.meshBlock [2, 2, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S512x512 : Shape := ⟨2, ![512, 512]⟩
abbrev S512x256 : Shape := ⟨2, ![512, 256]⟩
abbrev S8 : Shape := ⟨1, ![8]⟩
abbrev S_ : Shape := ⟨0, ![]⟩
abbrev S1 : Shape := ⟨1, ![1]⟩
abbrev S64x256 : Shape := ⟨2, ![64, 256]⟩
abbrev S1x64x256 : Shape := ⟨3, ![1, 64, 256]⟩

abbrev nBuf : Space → Nat
  | .hbm => 2
  | .vmem => 3
  | .smem => 0
  | _ => 0

abbrev bufTy : (tb : Table) → Fin (tcTables nBuf tb) → BufTy
  | .hbm, ⟨0, _⟩ => ⟨S1x512x1024, .f32⟩
  | .hbm, ⟨1, _⟩ => ⟨S512x512, .f32⟩
  | .local _ .vmem, ⟨0, _⟩ => ⟨S1x512x1024, .f32⟩
  | .local _ .vmem, ⟨1, _⟩ => ⟨S512x512, .f32⟩
  | .local _ .vmem, ⟨2, _⟩ => ⟨S512x256, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v20 : BitVec 32 := Scalar.muli v2 c8_i32_9
  let v21 : BitVec 32 := Scalar.addi c0_i32 v20
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_10 : BitVec 32 := 4#32
  let v22 : BitVec 32 := Scalar.muli v9 c4_i32_10
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v24 : BitVec 32 := Scalar.muli v8 c1_i32_11
  let v25 : BitVec 32 := Scalar.addi v23 v24
  v25.toNat
def k0_dev2 (d0 : Dev nD) : Nat :=
  let c0_i32_14 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_13 : BitVec 32 := 8#32
  let v26 : BitVec 32 := Scalar.muli v10 c8_i32_13
  let v27 : BitVec 32 := Scalar.addi c0_i32_14 v26
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_15 : BitVec 32 := 4#32
  let v28 : BitVec 32 := Scalar.muli v5 c4_i32_15
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v30 : BitVec 32 := Scalar.muli v8 c1_i32_16
  let v31 : BitVec 32 := Scalar.addi v29 v30
  v31.toNat
def k0_off1 (d0 : Dev nD) : Fin 3 → Nat :=
  let c0_i32_18 : BitVec 32 := 0#32
  let c0_i32_27 : BitVec 32 := 0#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c512_i32 : BitVec 32 := 512#32
  let v12 : BitVec 32 := Scalar.muli v11 c512_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v13 : BitVec 32 := Scalar.muli v2 c256_i32
  let v14 : BitVec 32 := Scalar.addi v12 v13
  ![0, 0, v14.toNat]
def k0_dev3 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v32 : BitVec 32 := Scalar.muli v2 c8_i32_21
  let v33 : BitVec 32 := Scalar.addi c0_i32_22 v32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_23 : BitVec 32 := 4#32
  let v34 : BitVec 32 := Scalar.muli v9 c4_i32_23
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v36 : BitVec 32 := Scalar.muli v8 c1_i32_24
  let v37 : BitVec 32 := Scalar.addi v35 v36
  v37.toNat
def k0_off2 (d0 : Dev nD) : Fin 3 → Nat :=
  let c0_i32_28 : BitVec 32 := 0#32
  let c64_i32_36 : BitVec 32 := 64#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c512_i32 : BitVec 32 := 512#32
  let v12 : BitVec 32 := Scalar.muli v11 c512_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v13 : BitVec 32 := Scalar.muli v2 c256_i32
  let v14 : BitVec 32 := Scalar.addi v12 v13
  ![0, 64, v14.toNat]
def k0_dev4 (d0 : Dev nD) : Nat :=
  let c0_i32_32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_31 : BitVec 32 := 8#32
  let v45 : BitVec 32 := Scalar.muli v2 c8_i32_31
  let v46 : BitVec 32 := Scalar.addi c0_i32_32 v45
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_33 : BitVec 32 := 4#32
  let v47 : BitVec 32 := Scalar.muli v9 c4_i32_33
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v49 : BitVec 32 := Scalar.muli v8 c1_i32_34
  let v50 : BitVec 32 := Scalar.addi v48 v49
  v50.toNat
def k0_off3 (d0 : Dev nD) : Fin 3 → Nat :=
  let c0_i32_37 : BitVec 32 := 0#32
  let c128_i32_45 : BitVec 32 := 128#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c512_i32 : BitVec 32 := 512#32
  let v12 : BitVec 32 := Scalar.muli v11 c512_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v13 : BitVec 32 := Scalar.muli v2 c256_i32
  let v14 : BitVec 32 := Scalar.addi v12 v13
  ![0, 128, v14.toNat]
def k0_dev5 (d0 : Dev nD) : Nat :=
  let c0_i32_41 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_40 : BitVec 32 := 8#32
  let v58 : BitVec 32 := Scalar.muli v2 c8_i32_40
  let v59 : BitVec 32 := Scalar.addi c0_i32_41 v58
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_42 : BitVec 32 := 4#32
  let v60 : BitVec 32 := Scalar.muli v9 c4_i32_42
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v62 : BitVec 32 := Scalar.muli v8 c1_i32_43
  let v63 : BitVec 32 := Scalar.addi v61 v62
  v63.toNat
def k0_off4 (d0 : Dev nD) : Fin 3 → Nat :=
  let c0_i32_46 : BitVec 32 := 0#32
  let c192_i32_53 : BitVec 32 := 192#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c512_i32 : BitVec 32 := 512#32
  let v12 : BitVec 32 := Scalar.muli v11 c512_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v13 : BitVec 32 := Scalar.muli v2 c256_i32
  let v14 : BitVec 32 := Scalar.addi v12 v13
  ![0, 192, v14.toNat]
def k0_dev6 (d0 : Dev nD) : Nat :=
  let c0_i32_49 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_48 : BitVec 32 := 8#32
  let v71 : BitVec 32 := Scalar.muli v2 c8_i32_48
  let v72 : BitVec 32 := Scalar.addi c0_i32_49 v71
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_50 : BitVec 32 := 4#32
  let v73 : BitVec 32 := Scalar.muli v9 c4_i32_50
  let v74 : BitVec 32 := Scalar.addi v72 v73
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v75 : BitVec 32 := Scalar.muli v8 c1_i32_51
  let v76 : BitVec 32 := Scalar.addi v74 v75
  v76.toNat
def k0_off5 (d0 : Dev nD) : Fin 3 → Nat :=
  let c0_i32_54 : BitVec 32 := 0#32
  let c256_i32_63 : BitVec 32 := 256#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c512_i32 : BitVec 32 := 512#32
  let v12 : BitVec 32 := Scalar.muli v11 c512_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v13 : BitVec 32 := Scalar.muli v2 c256_i32
  let v14 : BitVec 32 := Scalar.addi v12 v13
  ![0, 256, v14.toNat]
def k0_dev7 (d0 : Dev nD) : Nat :=
  let c0_i32_58 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_57 : BitVec 32 := 8#32
  let v84 : BitVec 32 := Scalar.muli v2 c8_i32_57
  let v85 : BitVec 32 := Scalar.addi c0_i32_58 v84
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_59 : BitVec 32 := 4#32
  let v86 : BitVec 32 := Scalar.muli v9 c4_i32_59
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v88 : BitVec 32 := Scalar.muli v8 c1_i32_60
  let v89 : BitVec 32 := Scalar.addi v87 v88
  v89.toNat
def k0_off6 (d0 : Dev nD) : Fin 3 → Nat :=
  let c0_i32_64 : BitVec 32 := 0#32
  let c320_i32_71 : BitVec 32 := 320#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c512_i32 : BitVec 32 := 512#32
  let v12 : BitVec 32 := Scalar.muli v11 c512_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v13 : BitVec 32 := Scalar.muli v2 c256_i32
  let v14 : BitVec 32 := Scalar.addi v12 v13
  ![0, 320, v14.toNat]
def k0_dev8 (d0 : Dev nD) : Nat :=
  let c0_i32_67 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_66 : BitVec 32 := 8#32
  let v97 : BitVec 32 := Scalar.muli v2 c8_i32_66
  let v98 : BitVec 32 := Scalar.addi c0_i32_67 v97
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_68 : BitVec 32 := 4#32
  let v99 : BitVec 32 := Scalar.muli v9 c4_i32_68
  let v100 : BitVec 32 := Scalar.addi v98 v99
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v101 : BitVec 32 := Scalar.muli v8 c1_i32_69
  let v102 : BitVec 32 := Scalar.addi v100 v101
  v102.toNat
def k0_off7 (d0 : Dev nD) : Fin 3 → Nat :=
  let c0_i32_72 : BitVec 32 := 0#32
  let c384_i32_79 : BitVec 32 := 384#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c512_i32 : BitVec 32 := 512#32
  let v12 : BitVec 32 := Scalar.muli v11 c512_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v13 : BitVec 32 := Scalar.muli v2 c256_i32
  let v14 : BitVec 32 := Scalar.addi v12 v13
  ![0, 384, v14.toNat]
def k0_dev9 (d0 : Dev nD) : Nat :=
  let c0_i32_75 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_74 : BitVec 32 := 8#32
  let v110 : BitVec 32 := Scalar.muli v2 c8_i32_74
  let v111 : BitVec 32 := Scalar.addi c0_i32_75 v110
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_76 : BitVec 32 := 4#32
  let v112 : BitVec 32 := Scalar.muli v9 c4_i32_76
  let v113 : BitVec 32 := Scalar.addi v111 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v114 : BitVec 32 := Scalar.muli v8 c1_i32_77
  let v115 : BitVec 32 := Scalar.addi v113 v114
  v115.toNat
def k0_off8 (d0 : Dev nD) : Fin 3 → Nat :=
  let c0_i32_80 : BitVec 32 := 0#32
  let c448_i32_87 : BitVec 32 := 448#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c512_i32 : BitVec 32 := 512#32
  let v12 : BitVec 32 := Scalar.muli v11 c512_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v13 : BitVec 32 := Scalar.muli v2 c256_i32
  let v14 : BitVec 32 := Scalar.addi v12 v13
  ![0, 448, v14.toNat]
def k0_dev10 (d0 : Dev nD) : Nat :=
  let c0_i32_83 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_82 : BitVec 32 := 8#32
  let v123 : BitVec 32 := Scalar.muli v2 c8_i32_82
  let v124 : BitVec 32 := Scalar.addi c0_i32_83 v123
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_84 : BitVec 32 := 4#32
  let v125 : BitVec 32 := Scalar.muli v9 c4_i32_84
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v127 : BitVec 32 := Scalar.muli v8 c1_i32_85
  let v128 : BitVec 32 := Scalar.addi v126 v127
  v128.toNat
def k0_off9 (d0 : Dev nD) : Fin 3 → Nat :=
  let c0 : Index := 0#32
  let c0_98 : Index := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_5 : BitVec 32 := 512#32
  let v15 : BitVec 32 := Scalar.muli v5 c512_i32_5
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_6 : BitVec 32 := 256#32
  let v16 : BitVec 32 := Scalar.muli v2 c256_i32_6
  let v17 : BitVec 32 := Scalar.addi v15 v16
  let v147 : Index := Scalar.indexCast v17
  ![0, 0, v147.toNat]
def k0_off10 (d0 : Dev nD) : Fin 2 → Nat :=
  let c0_101 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_7 : BitVec 32 := 256#32
  let v18 : BitVec 32 := Scalar.muli v2 c256_i32_7
  let v152 : Index := Scalar.indexCast v18
  ![0, v152.toNat]
def k0_off11 (d0 : Dev nD) : Fin 2 → Nat :=
  let c0_i32_108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_7 : BitVec 32 := 256#32
  let v18 : BitVec 32 := Scalar.muli v2 c256_i32_7
  ![0, v18.toNat]
def k0_dev11 (d0 : Dev nD) : Nat :=
  let c0_i32_105 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_104 : BitVec 32 := 8#32
  let v154 : BitVec 32 := Scalar.muli v10 c8_i32_104
  let v155 : BitVec 32 := Scalar.addi c0_i32_105 v154
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_106 : BitVec 32 := 4#32
  let v156 : BitVec 32 := Scalar.muli v5 c4_i32_106
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v158 : BitVec 32 := Scalar.muli v8 c1_i32_107
  let v159 : BitVec 32 := Scalar.addi v157 v158
  v159.toNat
def k0_off12 (d0 : Dev nD) : Fin 3 → Nat :=
  let c0_120 : Index := 0#32
  let c64 : Index := 64#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_5 : BitVec 32 := 512#32
  let v15 : BitVec 32 := Scalar.muli v5 c512_i32_5
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_6 : BitVec 32 := 256#32
  let v16 : BitVec 32 := Scalar.muli v2 c256_i32_6
  let v17 : BitVec 32 := Scalar.addi v15 v16
  let v177 : Index := Scalar.indexCast v17
  ![0, 64, v177.toNat]
def k0_off13 (d0 : Dev nD) : Fin 2 → Nat :=
  let c64_123 : Index := 64#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_7 : BitVec 32 := 256#32
  let v18 : BitVec 32 := Scalar.muli v2 c256_i32_7
  let v182 : Index := Scalar.indexCast v18
  ![64, v182.toNat]
def k0_off14 (d0 : Dev nD) : Fin 2 → Nat :=
  let c64_i32_130 : BitVec 32 := 64#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_7 : BitVec 32 := 256#32
  let v18 : BitVec 32 := Scalar.muli v2 c256_i32_7
  ![64, v18.toNat]
def k0_dev12 (d0 : Dev nD) : Nat :=
  let c0_i32_127 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_126 : BitVec 32 := 8#32
  let v184 : BitVec 32 := Scalar.muli v10 c8_i32_126
  let v185 : BitVec 32 := Scalar.addi c0_i32_127 v184
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_128 : BitVec 32 := 4#32
  let v186 : BitVec 32 := Scalar.muli v5 c4_i32_128
  let v187 : BitVec 32 := Scalar.addi v185 v186
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v188 : BitVec 32 := Scalar.muli v8 c1_i32_129
  let v189 : BitVec 32 := Scalar.addi v187 v188
  v189.toNat
def k0_off15 (d0 : Dev nD) : Fin 3 → Nat :=
  let c0_142 : Index := 0#32
  let c128 : Index := 128#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_5 : BitVec 32 := 512#32
  let v15 : BitVec 32 := Scalar.muli v5 c512_i32_5
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_6 : BitVec 32 := 256#32
  let v16 : BitVec 32 := Scalar.muli v2 c256_i32_6
  let v17 : BitVec 32 := Scalar.addi v15 v16
  let v207 : Index := Scalar.indexCast v17
  ![0, 128, v207.toNat]
def k0_off16 (d0 : Dev nD) : Fin 2 → Nat :=
  let c128_145 : Index := 128#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_7 : BitVec 32 := 256#32
  let v18 : BitVec 32 := Scalar.muli v2 c256_i32_7
  let v212 : Index := Scalar.indexCast v18
  ![128, v212.toNat]
def k0_off17 (d0 : Dev nD) : Fin 2 → Nat :=
  let c128_i32_152 : BitVec 32 := 128#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_7 : BitVec 32 := 256#32
  let v18 : BitVec 32 := Scalar.muli v2 c256_i32_7
  ![128, v18.toNat]
def k0_dev13 (d0 : Dev nD) : Nat :=
  let c0_i32_149 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_148 : BitVec 32 := 8#32
  let v214 : BitVec 32 := Scalar.muli v10 c8_i32_148
  let v215 : BitVec 32 := Scalar.addi c0_i32_149 v214
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_150 : BitVec 32 := 4#32
  let v216 : BitVec 32 := Scalar.muli v5 c4_i32_150
  let v217 : BitVec 32 := Scalar.addi v215 v216
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v218 : BitVec 32 := Scalar.muli v8 c1_i32_151
  let v219 : BitVec 32 := Scalar.addi v217 v218
  v219.toNat
def k0_off18 (d0 : Dev nD) : Fin 3 → Nat :=
  let c0_164 : Index := 0#32
  let c192 : Index := 192#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_5 : BitVec 32 := 512#32
  let v15 : BitVec 32 := Scalar.muli v5 c512_i32_5
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_6 : BitVec 32 := 256#32
  let v16 : BitVec 32 := Scalar.muli v2 c256_i32_6
  let v17 : BitVec 32 := Scalar.addi v15 v16
  let v237 : Index := Scalar.indexCast v17
  ![0, 192, v237.toNat]
def k0_off19 (d0 : Dev nD) : Fin 2 → Nat :=
  let c192_167 : Index := 192#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_7 : BitVec 32 := 256#32
  let v18 : BitVec 32 := Scalar.muli v2 c256_i32_7
  let v242 : Index := Scalar.indexCast v18
  ![192, v242.toNat]
def k0_off20 (d0 : Dev nD) : Fin 2 → Nat :=
  let c192_i32_174 : BitVec 32 := 192#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_7 : BitVec 32 := 256#32
  let v18 : BitVec 32 := Scalar.muli v2 c256_i32_7
  ![192, v18.toNat]
def k0_dev14 (d0 : Dev nD) : Nat :=
  let c0_i32_171 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_170 : BitVec 32 := 8#32
  let v244 : BitVec 32 := Scalar.muli v10 c8_i32_170
  let v245 : BitVec 32 := Scalar.addi c0_i32_171 v244
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_172 : BitVec 32 := 4#32
  let v246 : BitVec 32 := Scalar.muli v5 c4_i32_172
  let v247 : BitVec 32 := Scalar.addi v245 v246
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_173 : BitVec 32 := 1#32
  let v248 : BitVec 32 := Scalar.muli v8 c1_i32_173
  let v249 : BitVec 32 := Scalar.addi v247 v248
  v249.toNat
def k0_off21 (d0 : Dev nD) : Fin 3 → Nat :=
  let c0_186 : Index := 0#32
  let c256 : Index := 256#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_5 : BitVec 32 := 512#32
  let v15 : BitVec 32 := Scalar.muli v5 c512_i32_5
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_6 : BitVec 32 := 256#32
  let v16 : BitVec 32 := Scalar.muli v2 c256_i32_6
  let v17 : BitVec 32 := Scalar.addi v15 v16
  let v267 : Index := Scalar.indexCast v17
  ![0, 256, v267.toNat]
def k0_off22 (d0 : Dev nD) : Fin 2 → Nat :=
  let c256_189 : Index := 256#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_7 : BitVec 32 := 256#32
  let v18 : BitVec 32 := Scalar.muli v2 c256_i32_7
  let v272 : Index := Scalar.indexCast v18
  ![256, v272.toNat]
def k0_off23 (d0 : Dev nD) : Fin 2 → Nat :=
  let c256_i32_196 : BitVec 32 := 256#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_7 : BitVec 32 := 256#32
  let v18 : BitVec 32 := Scalar.muli v2 c256_i32_7
  ![256, v18.toNat]
def k0_dev15 (d0 : Dev nD) : Nat :=
  let c0_i32_193 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_192 : BitVec 32 := 8#32
  let v274 : BitVec 32 := Scalar.muli v10 c8_i32_192
  let v275 : BitVec 32 := Scalar.addi c0_i32_193 v274
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_194 : BitVec 32 := 4#32
  let v276 : BitVec 32 := Scalar.muli v5 c4_i32_194
  let v277 : BitVec 32 := Scalar.addi v275 v276
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_195 : BitVec 32 := 1#32
  let v278 : BitVec 32 := Scalar.muli v8 c1_i32_195
  let v279 : BitVec 32 := Scalar.addi v277 v278
  v279.toNat
def k0_off24 (d0 : Dev nD) : Fin 3 → Nat :=
  let c0_208 : Index := 0#32
  let c320 : Index := 320#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_5 : BitVec 32 := 512#32
  let v15 : BitVec 32 := Scalar.muli v5 c512_i32_5
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_6 : BitVec 32 := 256#32
  let v16 : BitVec 32 := Scalar.muli v2 c256_i32_6
  let v17 : BitVec 32 := Scalar.addi v15 v16
  let v297 : Index := Scalar.indexCast v17
  ![0, 320, v297.toNat]
def k0_off25 (d0 : Dev nD) : Fin 2 → Nat :=
  let c320_211 : Index := 320#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_7 : BitVec 32 := 256#32
  let v18 : BitVec 32 := Scalar.muli v2 c256_i32_7
  let v302 : Index := Scalar.indexCast v18
  ![320, v302.toNat]
def k0_off26 (d0 : Dev nD) : Fin 2 → Nat :=
  let c320_i32_218 : BitVec 32 := 320#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_7 : BitVec 32 := 256#32
  let v18 : BitVec 32 := Scalar.muli v2 c256_i32_7
  ![320, v18.toNat]
def k0_dev16 (d0 : Dev nD) : Nat :=
  let c0_i32_215 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_214 : BitVec 32 := 8#32
  let v304 : BitVec 32 := Scalar.muli v10 c8_i32_214
  let v305 : BitVec 32 := Scalar.addi c0_i32_215 v304
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_216 : BitVec 32 := 4#32
  let v306 : BitVec 32 := Scalar.muli v5 c4_i32_216
  let v307 : BitVec 32 := Scalar.addi v305 v306
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_217 : BitVec 32 := 1#32
  let v308 : BitVec 32 := Scalar.muli v8 c1_i32_217
  let v309 : BitVec 32 := Scalar.addi v307 v308
  v309.toNat
def k0_off27 (d0 : Dev nD) : Fin 3 → Nat :=
  let c0_230 : Index := 0#32
  let c384 : Index := 384#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_5 : BitVec 32 := 512#32
  let v15 : BitVec 32 := Scalar.muli v5 c512_i32_5
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_6 : BitVec 32 := 256#32
  let v16 : BitVec 32 := Scalar.muli v2 c256_i32_6
  let v17 : BitVec 32 := Scalar.addi v15 v16
  let v327 : Index := Scalar.indexCast v17
  ![0, 384, v327.toNat]
def k0_off28 (d0 : Dev nD) : Fin 2 → Nat :=
  let c384_233 : Index := 384#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_7 : BitVec 32 := 256#32
  let v18 : BitVec 32 := Scalar.muli v2 c256_i32_7
  let v332 : Index := Scalar.indexCast v18
  ![384, v332.toNat]
def k0_off29 (d0 : Dev nD) : Fin 2 → Nat :=
  let c384_i32_240 : BitVec 32 := 384#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_7 : BitVec 32 := 256#32
  let v18 : BitVec 32 := Scalar.muli v2 c256_i32_7
  ![384, v18.toNat]
def k0_dev17 (d0 : Dev nD) : Nat :=
  let c0_i32_237 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_236 : BitVec 32 := 8#32
  let v334 : BitVec 32 := Scalar.muli v10 c8_i32_236
  let v335 : BitVec 32 := Scalar.addi c0_i32_237 v334
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_238 : BitVec 32 := 4#32
  let v336 : BitVec 32 := Scalar.muli v5 c4_i32_238
  let v337 : BitVec 32 := Scalar.addi v335 v336
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_239 : BitVec 32 := 1#32
  let v338 : BitVec 32 := Scalar.muli v8 c1_i32_239
  let v339 : BitVec 32 := Scalar.addi v337 v338
  v339.toNat
def k0_off30 (d0 : Dev nD) : Fin 3 → Nat :=
  let c0_252 : Index := 0#32
  let c448 : Index := 448#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_5 : BitVec 32 := 512#32
  let v15 : BitVec 32 := Scalar.muli v5 c512_i32_5
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_6 : BitVec 32 := 256#32
  let v16 : BitVec 32 := Scalar.muli v2 c256_i32_6
  let v17 : BitVec 32 := Scalar.addi v15 v16
  let v357 : Index := Scalar.indexCast v17
  ![0, 448, v357.toNat]
def k0_off31 (d0 : Dev nD) : Fin 2 → Nat :=
  let c448_255 : Index := 448#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_7 : BitVec 32 := 256#32
  let v18 : BitVec 32 := Scalar.muli v2 c256_i32_7
  let v362 : Index := Scalar.indexCast v18
  ![448, v362.toNat]
def k0_off32 (d0 : Dev nD) : Fin 2 → Nat :=
  let c448_i32_262 : BitVec 32 := 448#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_7 : BitVec 32 := 256#32
  let v18 : BitVec 32 := Scalar.muli v2 c256_i32_7
  ![448, v18.toNat]
def k0_dev18 (d0 : Dev nD) : Nat :=
  let c0_i32_259 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_258 : BitVec 32 := 8#32
  let v364 : BitVec 32 := Scalar.muli v10 c8_i32_258
  let v365 : BitVec 32 := Scalar.addi c0_i32_259 v364
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_260 : BitVec 32 := 4#32
  let v366 : BitVec 32 := Scalar.muli v5 c4_i32_260
  let v367 : BitVec 32 := Scalar.addi v365 v366
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_261 : BitVec 32 := 1#32
  let v368 : BitVec 32 := Scalar.muli v8 c1_i32_261
  let v369 : BitVec 32 := Scalar.addi v367 v368
  v369.toNat
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x512x1024 : Shape := ⟨3, ![2, 512, 1024]⟩
abbrev S_ : Shape := ⟨0, ![]⟩
abbrev S512x1024 : Shape := ⟨2, ![512, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S_, .f32⟩
  | .hbm, ⟨2, _⟩ => ⟨S512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Regions.lean ====
/-
# The mesh, the buffers' pieces and what each piece holds

Sixteen devices stand at the mesh coordinates (x, y, z) with `c = 8 x + 4 y + z`. Nothing crosses z. A device
adds its own block of the input to the block of its partner along y, half of the columns here and half on its
partner along x, in eight chunks of 64 rows each; the two halves are then exchanged along x.

This module holds the partners, the pieces of the three buffers that the copies name, and the contents that
each piece has once it is final. Everything is stated for a chunk number `k : Fin 8`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value

@[expose] public section

noncomputable section

namespace Cert.Exchange

open Cert.KernelIdeal Cert.KernelIdeal.Gen
open Idealize.ShloMosaic Idealize.ShloMosaic.TcCoe

variable {F : FTy → Type} [FloatOps F]

/-! ## Partners -/

set_option backward.proofsInPublic true in
/-- The device at the other y coordinate. -/
def yp (c : Dev nD) : Dev nD := ⟨(8 * (c.val / 8) + c.val % 4 + 4) - 4 * (c.val / 4 % 2), by have h : c.val < 16 := c.isLt; show _ < 16; omega⟩

set_option backward.proofsInPublic true in
/-- The device at the other x coordinate. -/
def xp (c : Dev nD) : Dev nD := ⟨(4 * (c.val / 4 % 2) + c.val % 4 + 8) - 8 * (c.val / 8), by have h : c.val < 16 := c.isLt; show _ < 16; omega⟩

/-- The partner along y of the partner along y is the device itself. -/
theorem yp_yp (c : Dev nD) : yp (yp c) = c := by revert c; decide
/-- The partner along x of the partner along x is the device itself. -/
theorem xp_xp (c : Dev nD) : xp (xp c) = c := by revert c; decide

/-- The exchange along y, as a permutation of the devices. -/
def yEquiv : Dev nD ≃ Dev nD := ⟨yp, yp, yp_yp, yp_yp⟩
/-- The exchange along x, as a permutation of the devices. -/
def xEquiv : Dev nD ≃ Dev nD := ⟨xp, xp, xp_xp, xp_xp⟩

/-- A device's x coordinate: which half of the output's columns it computes. -/
def hx (c : Dev nD) : Fin 2 := ⟨c.val / 8, by have h : c.val < 16 := c.isLt; omega⟩

/-- The first input column of the sums a device computes. -/
def myCol (c : Dev nD) : ℕ := 512 * (c.val / 4 % 2) + 256 * (c.val / 8)
/-- The first input column of what a device sends along y. -/
def peCol (c : Dev nD) : ℕ := (256 * (c.val / 8) + 512) - 512 * (c.val / 4 % 2)
/-- The first output column of the half a device computes. -/
def outCol (c : Dev nD) : ℕ := 256 * (c.val / 8)
/-- The first input column of a device's whole result. -/
def base (c : Dev nD) : ℕ := 512 * (c.val / 4 % 2)

/-- What the partner along y sends is at the columns the device adds. -/
theorem peCol_yp (c : Dev nD) : peCol (yp c) = myCol c := by revert c; decide
/-- The partners along x have the same columns of the result. -/
theorem base_xp (c : Dev nD) : base (xp c) = base c := by revert c; decide
/-- The partners along x compute different halves. -/
theorem hx_xp (c : Dev nD) : hx (xp c) ≠ hx c := by revert c; decide
/-- The partners along y compute the same half. -/
theorem hx_yp (c : Dev nD) : hx (yp c) = hx c := by revert c; decide
/-- The first output column that a device computes, by its half. -/
theorem outCol_eq (c : Dev nD) : outCol c = 256 * (hx c).val := rfl
/-- The first input column that a device adds, by its half. -/
theorem myCol_eq (c : Dev nD) : myCol c = base c + 256 * (hx c).val := rfl
/-- The half that a device computes lies inside the output block. -/
theorem outCol_le (c : Dev nD) : outCol c ≤ 256 := by revert c; decide
/-- A device's columns of the result lie inside the input block. -/
theorem base_le (c : Dev nD) : base c ≤ 512 := by revert c; decide
/-- What is sent along y lies inside the input block. -/
theorem peCol_le (c : Dev nD) : peCol c ≤ 768 := by revert c; decide
/-- What is sent along y begins at a multiple of its width. -/
theorem peCol_mod (c : Dev nD) : peCol c % 256 = 0 := by revert c; decide

/-! ## Offsets of the pieces -/

/-- Where chunk `k` of what is sent along y begins in the input block. -/
def srcOff (c : Dev nD) (k : Fin 8) : Fin 3 → ℕ := ![0, 64 * k.val, peCol c]
/-- Where chunk `k` of what is added begins in the input block. -/
def mineOff (c : Dev nD) (k : Fin 8) : Fin 3 → ℕ := ![0, 64 * k.val, myCol c]
/-- Where chunk `k` begins in the receive buffer. -/
def rawOff (k : Fin 8) : Fin 2 → ℕ := ![64 * k.val, 0]
/-- Where chunk `k` of the half that `c` computes begins in an output block. -/
def outOff (c : Dev nD) (k : Fin 8) : Fin 2 → ℕ := ![64 * k.val, outCol c]

/-- The chunk of a row. -/
def chunkOf (i : Fin 512) : Fin 8 := ⟨i.val / 64, by omega⟩

/-- The elements of the input block that make chunk `k` of what is sent along y. -/
def srcSet (c : Dev nD) (k : Fin 8) : Finset S1x512x1024.Idx :=
  Finset.univ.filter fun i => chunkOf (i 1) = k ∧ peCol c ≤ (i 2).val ∧ (i 2).val < peCol c + 256
/-- The elements of the receive buffer that make chunk `k`. -/
def rawSet (k : Fin 8) : Finset S512x256.Idx := Finset.univ.filter fun i => chunkOf (i 0) = k
/-- Which half of the columns and which chunk an element of the output block belongs to. -/
def outKey (i : S512x512.Idx) : Fin 2 × Fin 8 := (⟨(i 1).val / 256, by have := (i 1).isLt; change _ < 512 at this; omega⟩, chunkOf (i 0))
/-- The elements of the output block in column half `h` and chunk `k`. -/
def outSet (hk : Fin 2 × Fin 8) : Finset S512x512.Idx := Finset.univ.filter fun i => outKey i = hk

abbrev xM : Memref sig .tc .vmem S1x512x1024 .f32 := Memref.whole cc0_stg0_0
abbrev oM : Memref sig .tc .vmem S512x512 .f32 := Memref.whole cc0_stg1_0
abbrev rM : Memref sig .tc .vmem S512x256 .f32 := Memref.whole cc0_scratch0

/-- A piece of the input block, as the copy along y names it. -/
abbrev srcM (off : Fin 3 → ℕ) (h : ∀ a, off a + S1x64x256.size a ≤ S1x512x1024.size a) : Memref sig .tc .vmem S64x256 .f32 :=
  (xM.slice (Rect.unit (s := S1x512x1024) off S1x64x256.size h) (fun _ => rfl)).squeeze S64x256 squeezes_S1x64x256_S64x256
/-- A piece of the receive buffer. -/
abbrev rawM (off : Fin 2 → ℕ) (h : ∀ a, off a + S64x256.size a ≤ S512x256.size a) : Memref sig .tc .vmem S64x256 .f32 :=
  rM.slice (Rect.unit (s := S512x256) off S64x256.size h) (fun _ => rfl)
/-- A piece of the output block. -/
abbrev outM (off : Fin 2 → ℕ) (h : ∀ a, off a + S64x256.size a ≤ S512x512.size a) : Memref sig .tc .vmem S64x256 .f32 :=
  oM.slice (Rect.unit (s := S512x512) off S64x256.size h) (fun _ => rfl)

/-- The elements that the copy of chunk `k` along y reads. -/
theorem set_src (c : Dev nD) (k : Fin 8) (h) : (srcM (srcOff c k) h).view.set = srcSet c k := by
  show (((View.whole cc0_stg0_0).slice _).reshape _ _).set = _
  rw [View.set_reshape, View.set_slice_whole]
  ext i
  have h0 : (i 0).val < 1 := (i 0).isLt
  simp only [Rect.mem_set_unit, srcSet, Finset.mem_filter, Finset.mem_univ, true_and, chunkOf, Fin.ext_iff]
  constructor
  · intro hi
    have a1 : 64 * k.val ≤ (i 1).val ∧ (i 1).val < 64 * k.val + 64 := hi 1
    have a2 : peCol c ≤ (i 2).val ∧ (i 2).val < peCol c + 256 := hi 2
    omega
  · rintro ⟨e, a2⟩ a
    fin_cases a
    · show 0 ≤ (i 0).val ∧ (i 0).val < 0 + 1; omega
    · show 64 * k.val ≤ (i 1).val ∧ (i 1).val < 64 * k.val + 64; omega
    · exact a2

/-- The elements that the copy of chunk `k` along y writes. -/
theorem set_raw (k : Fin 8) (h) : (rawM (rawOff k) h).view.set = rawSet k := by
  show ((View.whole cc0_scratch0).slice _).set = _
  rw [View.set_slice_whole]
  ext i
  have h1 : (i 1).val < 256 := (i 1).isLt
  simp only [Rect.mem_set_unit, rawSet, Finset.mem_filter, Finset.mem_univ, true_and, chunkOf, Fin.ext_iff]
  constructor
  · intro hi
    have a0 : 64 * k.val ≤ (i 0).val ∧ (i 0).val < 64 * k.val + 64 := hi 0
    omega
  · intro e a
    fin_cases a
    · show 64 * k.val ≤ (i 0).val ∧ (i 0).val < 64 * k.val + 64; omega
    · show 0 ≤ (i 1).val ∧ (i 1).val < 0 + 256; omega

/-- The elements that the copy of chunk `k` along x reads, and writes on the partner. -/
theorem set_out (c : Dev nD) (k : Fin 8) (h) : (outM (outOff c k) h).view.set = outSet (hx c, k) := by
  show ((View.whole cc0_stg1_0).slice _).set = _
  rw [View.set_slice_whole]
  ext i
  have h1 : (i 1).val < 512 := (i 1).isLt
  have e0 := outCol_eq c
  simp only [Rect.mem_set_unit, outSet, outKey, Finset.mem_filter, Finset.mem_univ, true_and, Prod.mk.injEq, chunkOf, Fin.ext_iff]
  constructor
  · intro hi
    have a0 : 64 * k.val ≤ (i 0).val ∧ (i 0).val < 64 * k.val + 64 := hi 0
    have a1 : outCol c ≤ (i 1).val ∧ (i 1).val < outCol c + 256 := hi 1
    omega
  · intro e a
    fin_cases a
    · show 64 * k.val ≤ (i 0).val ∧ (i 0).val < 64 * k.val + 64; omega
    · show outCol c ≤ (i 1).val ∧ (i 1).val < outCol c + 256; omega

end Cert.Exchange

end
-- ==== Proof.Contents.lean ====
/-
# What the buffers hold

`X c` is what device `c`'s block of the input holds. The receive buffer ends as the columns that the partner
along y sent; the half of the output that a device computes ends as the sum of the two blocks there; and the
other half ends as what the partner along x computed. A copy or a store into a piece leaves in that piece
exactly these final contents, whatever was there before.
-/
module

public import proofs.«01_k».proof.Proof.Regions
public import Idealize.ShloMosaic.Lib.Pipeline.ValueKit
public import Idealize.ShloMosaic.Lib.ValueLayout

@[expose] public section

noncomputable section

namespace Cert.Exchange

open Cert.KernelIdeal Cert.KernelIdeal.Gen
open Idealize.ShloMosaic Idealize.ShloMosaic.TcCoe

variable {F : FTy → Type} [FloatOps F]

abbrev XBuf (F : FTy → Type) : Type := (cc0_stg0_0 : Ref sig .tc).ty.Contents (Elt F)
abbrev OBuf (F : FTy → Type) : Type := (cc0_stg1_0 : Ref sig .tc).ty.Contents (Elt F)
abbrev RBuf (F : FTy → Type) : Type := (cc0_scratch0 : Ref sig .tc).ty.Contents (Elt F)

/-- The element of an input block at row `i` and column `j`. -/
def xIx (i : Fin 512) (j : ℕ) (hj : j < 1024) : S1x512x1024.Idx := ValueIdx.ix3 (0 : Fin 1) i ⟨j, hj⟩

/-- Equal columns name the same element of an input block. -/
theorem xIx_congr (i : Fin 512) {j j' : ℕ} (h : j = j') (hj : j < 1024) (hj' : j' < 1024) : xIx i j hj = xIx i j' hj' := by
  subst h; rfl

/-- The columns that a device adds lie inside the input block. -/
theorem myCol_le (c : Dev nD) : myCol c ≤ 768 := by revert c; decide

set_option backward.proofsInPublic true in
/-- The final receive buffer: the partner's block at the columns this device adds. -/
def rawAt (X : Dev nD → XBuf F) (c : Dev nD) : RBuf F := fun i : S512x256.Idx =>
  X (yp c) (xIx (i 0) (myCol c + (i 1).val) (by have h : (i 1).val < 256 := (i 1).isLt; have := myCol_le c; omega))

set_option backward.proofsInPublic true in
/-- The sum of the blocks of a device and of its partner along y, at the columns of the result. -/
def sumAt (X : Dev nD → XBuf F) (c : Dev nD) : OBuf F := fun i : S512x512.Idx =>
  have h : base c + (i 1).val < 1024 := by have h : (i 1).val < 512 := (i 1).isLt; have := base_le c; omega
  FloatOps.addf (φ := .f32) (X c (xIx (i 0) (base c + (i 1).val) h)) (X (yp c) (xIx (i 0) (base c + (i 1).val) h))

/-- The final output: the own sum in the own half, the partner's (along x) in the other. -/
def outAt (X : Dev nD → XBuf F) (c : Dev nD) : OBuf F := fun i : S512x512.Idx =>
  if (outKey i).1 = hx c then sumAt X c i else sumAt X (xp c) i

/-- A column half is computed either by a device or by its partner along x. -/
theorem hx_cases (c : Dev nD) (h : Fin 2) : h = hx c ∨ h = hx (xp c) := by revert h c; decide

/-- In the half that a device computes, its final output is its own sum. -/
theorem outAt_own (X : Dev nD → XBuf F) (c : Dev nD) (k : Fin 8) (i : S512x512.Idx) (hi : i ∈ outSet (hx c, k)) :
    outAt X c i = sumAt X c i := by
  have e : outKey i = (hx c, k) := (Finset.mem_filter.mp hi).2
  exact if_pos (by rw [e])

/-- In the half that a device computes, its partner's final output is that device's sum. -/
theorem outAt_other (X : Dev nD → XBuf F) (c : Dev nD) (k : Fin 8) (i : S512x512.Idx) (hi : i ∈ outSet (hx c, k)) :
    outAt X (xp c) i = sumAt X c i := by
  have e : outKey i = (hx c, k) := (Finset.mem_filter.mp hi).2
  have : outAt X (xp c) i = sumAt X (xp (xp c)) i := if_neg (by rw [e]; exact fun h => hx_xp c h.symm)
  rw [this, xp_xp]

/-- The two partners along x agree on every piece of the output. -/
theorem outAt_agree (X : Dev nD → XBuf F) (c : Dev nD) (k : Fin 8) (i : S512x512.Idx) (hi : i ∈ outSet (hx c, k)) :
    outAt X (xp c) i = outAt X c i := by rw [outAt_other X c k i hi, outAt_own X c k i hi]

/-! ## Reading a piece -/

/-- A piece of the input block, read with its outer dimension dropped. -/
theorem read_src (c : Dev nD) (k : Fin 8) (col : ℕ) (hc : col ≤ 768) (off : Fin 3 → ℕ) (ho : off = ![0, 64 * k.val, col]) (h) (f : XBuf F)
    (j : S64x256.Idx) :
    (srcM off h).view.read (Elt F) f j
      = f (xIx ⟨64 * k.val + (j 0).val, by have h : (j 0).val < 64 := (j 0).isLt; omega⟩ (col + (j 1).val) (by have h : (j 1).val < 256 := (j 1).isLt; omega)) := by
  subst ho
  have hj : j = ValueIdx.ix2 (j 0 : Fin 64) (j 1 : Fin 256) := by
    funext a; fin_cases a <;> rfl
  have hk : (j 0).val < 64 := (j 0).isLt
  have e := ValueIdx.shapeCast_1ab_ab_apply (a := 64) (b := 256)
    (xM.view.readAt (Elt F) (Rect.unit (s := S1x512x1024) ![0, 64 * k.val, col] S1x64x256.size h).toLoadRect f) shapeCasts_S1x64x256_S64x256 (j 0) (j 1)
  refine ((congrArg ((srcM _ h).view.read (Elt F) f) hj).trans (show _ = _ from e)).trans ?_
  show f _ = f _
  congr 1
  funext a
  apply Fin.ext
  fin_cases a
  · show 0 + 1 * 0 = 0; rfl
  · show 64 * k.val + 1 * (j 0).val = 64 * k.val + (j 0).val; omega
  · show col + 1 * (j 1).val = col + (j 1).val; omega

/-- A chunk of the partner's block, copied into the receive buffer, is what the receive buffer finally holds there. -/
theorem landed_raw (X : Dev nD → XBuf F) (c : Dev nD) (k : Fin 8) (hs hd) (fd : RBuf F) (i : S512x256.Idx) (hi : i ∈ rawSet k) :
    (rawM (rawOff k) hd).view.write (Elt F) fd ((srcM (srcOff c k) hs).view.read (Elt F) (X c)) Finset.univ i = rawAt X (yp c) i := by
  rw [← set_raw k hd] at hi
  obtain ⟨j, -, rfl⟩ := Finset.mem_map.mp hi
  have e := View.write_emb_of_mem (v := (rawM (rawOff k) hd).view) fd ((srcM (srcOff c k) hs).view.read (Elt F) (X c)) (Finset.mem_univ j)
  refine (show _ = _ from e).trans ?_
  rw [read_src c k (peCol c) (peCol_le c) (srcOff c k) rfl]
  show X c _ = X (yp (yp c)) _
  rw [yp_yp]
  congr 1
  funext a
  apply Fin.ext
  fin_cases a
  · rfl
  · show 64 * k.val + (j 0).val = 64 * k.val + 1 * (j 0).val; omega
  · show peCol c + (j 1).val = myCol (yp c) + (0 + 1 * (j 1).val)
    rw [← peCol_yp (yp c), yp_yp]; omega

/-- A chunk of the output, copied to the partner along x, is what the partner's output finally holds there. -/
theorem landed_out (X : Dev nD → XBuf F) (c : Dev nD) (k : Fin 8) (hs hd) (fd : OBuf F) (i : S512x512.Idx) (hi : i ∈ outSet (hx c, k)) :
    (outM (outOff c k) hd).view.write (Elt F) fd ((outM (outOff c k) hs).view.read (Elt F) (outAt X c)) Finset.univ i = outAt X (xp c) i := by
  rw [outAt_agree X c k i hi]
  rw [← set_out c k hd] at hi
  obtain ⟨j, -, rfl⟩ := Finset.mem_map.mp hi
  exact View.write_emb_of_mem (v := (outM (outOff c k) hd).view) fd ((outM (outOff c k) hs).view.read (Elt F) (outAt X c)) (Finset.mem_univ j)

/-- The sum of a chunk of the own block and the chunk received is what the output finally holds there. -/
theorem stored_out (X : Dev nD → XBuf F) (c : Dev nD) (k : Fin 8) (hx' hr ho) (fd : OBuf F) (i : S512x512.Idx) (hi : i ∈ outSet (hx c, k)) :
    (oM.access (Rect.unit (s := S512x512) (outOff c k) S64x256.size ho)).write (Elt F) fd
      (addf (shapeCast S64x256 (xM.view.readAt (Elt F) (Rect.unit (s := S1x512x1024) (mineOff c k) S1x64x256.size hx').toLoadRect (X c)) shapeCasts_S1x64x256_S64x256)
        (rM.view.readAt (Elt F) (Rect.unit (s := S512x256) (rawOff k) S64x256.size hr).toLoadRect (rawAt X c)) : FVec F S64x256 .f32) Finset.univ i
      = outAt X c i := by
  rw [outAt_own X c k i hi]
  rw [← set_out c k ho] at hi
  obtain ⟨j, -, rfl⟩ := Finset.mem_map.mp hi
  have e := View.write_emb_of_mem (v := (outM (outOff c k) ho).view) fd
      (addf (shapeCast S64x256 (xM.view.readAt (Elt F) (Rect.unit (s := S1x512x1024) (mineOff c k) S1x64x256.size hx').toLoadRect (X c)) shapeCasts_S1x64x256_S64x256)
        (rM.view.readAt (Elt F) (Rect.unit (s := S512x256) (rawOff k) S64x256.size hr).toLoadRect (rawAt X c)) : FVec F S64x256 .f32) (Finset.mem_univ j)
  refine (show _ = _ from e).trans ?_
  have es := read_src (F := F) c k (myCol c) (myCol_le c) (mineOff c k) rfl hx' (X c) j
  show FloatOps.addf (φ := .f32) ((srcM (mineOff c k) hx').view.read (Elt F) (X c) j) _ = FloatOps.addf (φ := .f32) _ _
  have hm := myCol_eq c
  congr 1
  · rw [es]
    congr 1
    funext a
    apply Fin.ext
    fin_cases a
    · rfl
    · show 64 * k.val + (j 0).val = 64 * k.val + 1 * (j 0).val; omega
    · show myCol c + (j 1).val = base c + (256 * (hx c).val + 1 * (j 1).val); omega
  · show X (yp c) _ = X (yp c) _
    congr 1
    funext a
    apply Fin.ext
    fin_cases a
    · rfl
    · rfl
    · show myCol c + (0 + 1 * (j 1).val) = base c + (256 * (hx c).val + 1 * (j 1).val); omega

end Cert.Exchange

end
-- ==== Proof.Protocol.lean ====
/-
# The protocol of the exchange

Each device has thirty-three semaphores that count: its barrier, and for every chunk one for a copy along y
leaving (kind 0), one for a copy along y arriving (1), one for a copy along x leaving (2) and one for a copy
along x arriving (3). Each of them has one round. This module says what each unit of each round hands over,
what a device owes the others when it starts, and in which order the waits are ranked.
-/
module

public import proofs.«01_k».proof.Proof.Contents
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's own, and the exchange's with duties named by a Boolean. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Semaphores -/

/-- The barrier semaphore, which outlives the kernel. -/
abbrev barS : Sem sig := (SemArray.scalar (sig.barrier 0 rfl) : Sems sig S_).sem

set_option backward.proofsInPublic true in
/-- The semaphore of kind `j` for chunk `k`. -/
def dsem (j : Fin 4) (k : Fin 8) : DmaSem sig := ⟨2 + 8 * j.val + k.val, by show _ < 34; omega⟩

abbrev barCell (c : Dev nD) : GSem nD τ sig := ((c : Thread nD τ), .reg barS)
abbrev dCell (c : Dev nD) (j : Fin 4) (k : Fin 8) : GSem nD τ sig := ((c : Thread nD τ), .dma (dsem j k))

/-- The names of a device's counting semaphores. -/
abbrev CIx : Type := Option (Fin 4 × Fin 8)
abbrev csem : CIx → SemLoc sig
  | none => .reg barS
  | some p => .dma (dsem p.1 p.2)
abbrev kcell (x : Dev nD × CIx) : GSem nD τ sig := ((x.1 : Thread nD τ), csem x.2)

set_option backward.proofsInPublic true in
/-- The kind of a semaphore. -/
def kindOf (q : DmaSem sig) : Fin 4 := ⟨(q.val - 2) / 8 % 4, Nat.mod_lt _ (by decide)⟩
set_option backward.proofsInPublic true in
/-- The chunk of a semaphore. -/
def partOf (q : DmaSem sig) : Fin 8 := ⟨(q.val - 2) % 8, Nat.mod_lt _ (by decide)⟩

/-- The kind of the semaphore of kind `j` is `j`. -/
theorem kindOf_dsem (j : Fin 4) (k : Fin 8) : kindOf (dsem j k) = j := by revert j k; decide
/-- The chunk of the semaphore for chunk `k` is `k`. -/
theorem partOf_dsem (j : Fin 4) (k : Fin 8) : partOf (dsem j k) = k := by revert j k; decide

/-- Different names of a device's semaphores name different semaphores. -/
theorem csem_injective : Function.Injective csem := by
  rintro (_ | ⟨j, k⟩) (_ | ⟨j', k'⟩) h
  · rfl
  · cases h
  · cases h
  · have e : dsem j k = dsem j' k' := SemLoc.dma.inj h
    have e1 := congrArg kindOf e
    have e2 := congrArg partOf e
    rw [kindOf_dsem, kindOf_dsem] at e1
    rw [partOf_dsem, partOf_dsem] at e2
    rw [e1, e2]

/-- Over the whole mesh, different names name different semaphores. -/
theorem kcell_injective : Function.Injective kcell := by
  rintro ⟨c, x⟩ ⟨c', x'⟩ h
  have h1 : c = c' := congrArg (fun g : GSem nD τ sig => g.1.1) h
  have h2 : csem x = csem x' := congrArg Prod.snd h
  rw [h1, csem_injective h2]

/-- What the copy of one chunk counts. -/
def N : ℕ := (cc0_scratch0 : Ref sig .tc).dmaCredit S64x256 .f32
/-- The copy of a chunk counts something. -/
theorem N_pos : 0 < N := View.dmaCredit_pos (rawM (rawOff 0) (by decide)).view (by decide)
/-- A copy into a piece of the receive buffer counts one chunk. -/
theorem credit_raw (off h) : (rawM off h).view.dmaCredit = N := rfl
/-- A copy out of a piece of the input block counts one chunk. -/
theorem credit_src (off h) : (srcM off h).view.dmaCredit = N := rfl
/-- A copy of a piece of the output block counts one chunk. -/
theorem credit_out (off h) : (outM off h).view.dmaCredit = N := rfl

/-! ## Holding a piece -/

variable (X : Dev nD → XBuf F)

/-- Half a share of chunk `k` of the columns that go to the partner along y. -/
def srcPts (c : Dev nD) (k : Fin 8) : sProp 𝕄 := ((c : Thread nD τ).loc cc0_stg0_0) ↦[srcSet c k]{fullShare.right} X c
/-- Chunk `k` of the receive buffer. -/
def rawPts (c : Dev nD) (k : Fin 8) (f : RBuf F) : sProp 𝕄 := ((c : Thread nD τ).loc cc0_scratch0) ↦[rawSet k]{fullShare} f
/-- A chunk of one half of the output block. -/
def outPts (c : Dev nD) (hk : Fin 2 × Fin 8) (f : OBuf F) : sProp 𝕄 := ((c : Thread nD τ).loc cc0_stg1_0) ↦[outSet hk]{fullShare} f

instance srcPts_storable (c : Dev nD) (k : Fin 8) : BI.Storable (upEmb : UEmb _ 𝕄) (srcPts X c k) := by unfold srcPts; infer_instance
omit [FloatOps F] in
instance rawPts_storable (c : Dev nD) (k : Fin 8) (f : RBuf F) : BI.Storable (upEmb : UEmb _ 𝕄) (rawPts c k f) := by unfold rawPts; infer_instance
omit [FloatOps F] in
instance outPts_storable (c : Dev nD) (hk : Fin 2 × Fin 8) (f : OBuf F) : BI.Storable (upEmb : UEmb _ 𝕄) (outPts c hk f) := by unfold outPts; infer_instance

/-! ## What is handed over -/

/-- A unit on `c`'s barrier: from the partner along y (`false`) its receive buffer; from the partner along x
    (`true`) the half of its output that `c` computes. -/
def barPay (c : Dev nD) (d : Bool) : sProp 𝕄 :=
  match d with
  | false => bigSep Finset.univ fun k : Fin 8 => iprop(∃ f, rawPts (yp c) k f)
  | true => bigSep Finset.univ fun k : Fin 8 => iprop(∃ f, outPts (xp c) (hx c, k) f)

/-- A copy of chunk `k`: leaving, the source comes back; arriving, the destination comes filled. -/
def dmaPay (c : Dev nD) (j : Fin 4) (k : Fin 8) : sProp 𝕄 :=
  match j with
  | 0 => srcPts X c k
  | 1 => rawPts c k (rawAt X c)
  | 2 => outPts c (hx c, k) (outAt X c)
  | 3 => outPts c (hx (xp c), k) (outAt X c)

omit [FloatOps F] in
instance barPay_storable (c : Dev nD) (d : Bool) : BI.Storable (upEmb : UEmb _ 𝕄) (barPay (F := F) c d) := by
  cases d <;> unfold barPay <;> infer_instance
instance dmaPay_storable (c : Dev nD) (j : Fin 4) (k : Fin 8) : BI.Storable (upEmb : UEmb _ 𝕄) (dmaPay X c j k) := by
  unfold dmaPay; fin_cases j <;> infer_instance

abbrev IsBar (g : GSem nD τ sig) : Prop := g.1.2 = .tc ∧ g.2 = .reg barS
abbrev IsCopy (g : GSem nD τ sig) : Prop := g.1.2 = .tc ∧ ∃ p : Fin 4 × Fin 8, g.2 = .dma (dsem p.1 p.2)

/-- One round each: the barrier two units, from the two partners; every other semaphore the one copy. -/
def sched : Rounds.Schedule (GSem nD τ sig) Bool 𝕄 where
  duties g r := if r = 0 ∧ IsBar g then Finset.univ else if r = 0 ∧ IsCopy g then {false} else ∅
  unitless _ := False
  amount g _ _ := match g.2 with
    | .reg _ => 1
    | .dma _ => N
  payload g _ d := match g.2 with
    | .reg _ => barPay g.1.1 d
    | .dma q => dmaPay X g.1.1 (kindOf q) (partOf q)
  amount_pos g _ _ _ := by
    rcases g with ⟨t, _ | _⟩
    · exact Nat.one_pos
    · exact N_pos

instance sched_payload_storable (g : GSem nD τ sig) (r : ℕ) (d : Bool) : BI.Storable (upEmb : UEmb _ 𝕄) ((sched X).payload g r d) := by
  rcases g with ⟨t, _ | _⟩
  · exact barPay_storable _ _
  · exact dmaPay_storable X _ _ _

section Sched
variable (c : Dev nD) (j : Fin 4) (k : Fin 8)

/-- A copy's semaphore is not a barrier. -/
theorem not_bar_copy : ¬ IsBar (dCell c j k) := fun h => by cases h.2

/-- A barrier's round has two payers, the partners along y and x. -/
theorem duties_bar : (sched X).duties (barCell c) 0 = Finset.univ := by dsimp only [sched]; exact if_pos ⟨rfl, rfl, rfl⟩
/-- A copy's semaphore has one payer. -/
theorem duties_copy : (sched X).duties (dCell c j k) 0 = {false} := by
  dsimp only [sched]; rw [if_neg (fun h => not_bar_copy c j k h.2)]; exact if_pos ⟨rfl, rfl, (j, k), rfl⟩
/-- After the first round there is nothing to pay. -/
theorem duties_later (g : GSem nD τ sig) : ∀ r, 1 ≤ r → (sched X).duties g r = ∅ :=
  fun r hr => by dsimp only [sched]; rw [if_neg fun h => by omega, if_neg fun h => by omega]
/-- Each signal on a barrier is one unit. -/
theorem amount_bar (d : Bool) : (sched X).amount (barCell c) 0 d = 1 := rfl
/-- A copy pays its chunk's whole count. -/
theorem amount_copy (d : Bool) : (sched X).amount (dCell c j k) 0 d = N := rfl
/-- What a signal on a barrier hands over. -/
theorem payload_bar (d : Bool) : (sched X).payload (barCell c) 0 d = barPay c d := rfl
/-- What a copy hands over. -/
theorem payload_copy (d : Bool) : (sched X).payload (dCell c j k) 0 d = dmaPay X c j k := by
  show dmaPay X c (kindOf (dsem j k)) (partOf (dsem j k)) = _
  rw [kindOf_dsem, partOf_dsem]

/-- A barrier's round is two units. -/
theorem expect_bar : (sched X).expect (barCell c) 0 = 2 := by
  unfold Schedule.expect Schedule.amountOf
  rw [duties_bar, Finset.sum_congr rfl fun d _ => amount_bar X c d, Finset.sum_const, Finset.card_univ, Fintype.card_bool, smul_eq_mul]
/-- The round of a copy's semaphore is the count of one chunk. -/
theorem expect_copy : (sched X).expect (dCell c j k) 0 = N := by
  unfold Schedule.expect Schedule.amountOf; rw [duties_copy, Finset.sum_singleton, amount_copy]

/-- The barrier's round hands over the two partners' pieces. -/
theorem rest_bar : bigSep ((sched X).duties (barCell c) 0 \ ∅) (fun d => (sched X).payload (barCell c) 0 d)
    = iprop(barPay c false ∗ barPay c true) := by
  rw [Finset.sdiff_empty, duties_bar, bigSep_univ_eq_bigSepL [false, true] (by decide) (by decide), bigSepL_cons_cons, bigSepL_singleton]
  rfl
/-- Waiting for a copy's whole round receives what the copy hands over. -/
theorem rest_copy : bigSep ((sched X).duties (dCell c j k) 0 \ ∅) (fun d => (sched X).payload (dCell c j k) 0 d) = dmaPay X c j k := by
  rw [Finset.sdiff_empty, duties_copy, bigSep_singleton, payload_copy]

end Sched

/-! ## What is owed -/

abbrev Tally : Type := CellTallies nD τ sig Unit

/-- The part of eight amounts that is left when the first `n` are paid. -/
def left (f : Fin 8 → Tally) (n : ℕ) : Tally := ∑ k, if k.val < n then 0 else f k

/-- Paying the next amount. -/
theorem left_step (f : Fin 8 → Tally) (k : Fin 8) : left f k.val = left f (k.val + 1) + f k := by
  unfold left
  rw [← Finset.add_sum_erase _ _ (Finset.mem_univ k), ← Finset.add_sum_erase _ (fun i : Fin 8 => if i.val < k.val + 1 then 0 else f i) (Finset.mem_univ k),
    if_neg (Nat.lt_irrefl _), if_pos (Nat.lt_succ_self _), zero_add, add_comm]
  congr 1
  refine Finset.sum_congr rfl fun i hi => ?_
  have hne : i.val ≠ k.val := fun h => (Finset.mem_erase.mp hi).1 (Fin.ext h)
  by_cases h : i.val < k.val
  · rw [if_pos h, if_pos (by omega)]
  · rw [if_neg h, if_neg (by omega)]

/-- After all eight chunks nothing is left. -/
theorem left_end (f : Fin 8 → Tally) : left f 8 = 0 := by
  unfold left; exact Finset.sum_eq_zero fun k _ => if_pos k.isLt
/-- Before the first chunk everything is left. -/
theorem left_zero (f : Fin 8 → Tally) : left f 0 = ∑ k, f k := by
  unfold left; exact Finset.sum_congr rfl fun k _ => if_neg (Nat.not_lt_zero _)

/-- What is left is only amounts among the eight. -/
theorem left_pos (f : Fin 8 → Tally) (n : ℕ) (g : GSem nD τ sig) (u : Unit) (h : 0 < left f n g u) : ∃ k, 0 < f k g u := by
  unfold left at h
  rw [Finset.sum_apply, Finsupp.finset_sum_apply] at h
  obtain ⟨k, -, hk⟩ := Finset.exists_ne_zero_of_sum_ne_zero (Nat.pos_iff_ne_zero.mp h)
  refine ⟨k, Nat.pos_of_ne_zero fun h0 => hk ?_⟩
  split
  · rfl
  · exact h0

/-- The arrivals `c` owes its partner along y, and along x. -/
def oweY (c : Dev nD) (k : Fin 8) : Tally := tallyAt (dCell (yp c) 1 k) () N
def oweX (c : Dev nD) (k : Fin 8) : Tally := tallyAt (dCell (xp c) 3 k) () N
/-- What is owed after the barrier, when `n` copies along y and `n'` along x have started. -/
def owed (c : Dev nD) (n n' : ℕ) : Tally := left (oweY c) n + left (oweX c) n'
/-- The same before the second signal, and before the first. -/
def owed₁ (c : Dev nD) : Tally := owed c 0 0 + tallyAt (barCell (xp c)) () 1
def owed₀ (c : Dev nD) : Tally := owed₁ c + tallyAt (barCell (yp c)) () 1

/-- Starting the copy of chunk `k` along y pays that chunk's arrival. -/
theorem owed_stepY (c : Dev nD) (k : Fin 8) (n' : ℕ) : owed c k.val n' = owed c (k.val + 1) n' + tallyAt (dCell (yp c) 1 k) () N := by
  unfold owed; rw [left_step, add_right_comm]; rfl
/-- Starting the copy of chunk `k` along x pays that chunk's arrival. -/
theorem owed_stepX (c : Dev nD) (n : ℕ) (k : Fin 8) : owed c n k.val = owed c n (k.val + 1) + tallyAt (dCell (xp c) 3 k) () N := by
  unfold owed; rw [left_step, ← add_assoc]; rfl
/-- When all copies are started nothing is owed. -/
theorem owed_end (c : Dev nD) : owed c 8 8 = 0 := by unfold owed; rw [left_end, left_end, add_zero]

/-- Every semaphore of a core is ranked. -/
def L (g : GSem nD τ sig) : Finset Unit := if g.1.2 = .tc then {()} else ∅
/-- The ranks: the barrier, then arrivals along y, then arrivals along x; everything else below. -/
def lv (g : GSem nD τ sig) (_ : Unit) : ℕ :=
  match g.2 with
  | .reg _ => 1
  | .dma q => if q.val < 10 then 0 else if q.val < 18 then 2 else if q.val < 26 then 0 else 3

/-- Only the semaphores of the devices that run the kernel have a rank. -/
theorem L_of_ne (g : GSem nD τ sig) (h : g.1.2 ≠ .tc) : L g = ∅ := if_neg h
/-- Each of those has one. -/
theorem L_tc (c : Dev nD) (sm : SemLoc sig) : L ((c : Thread nD τ), sm) = {()} := if_pos rfl

/-- The ranks of the copies: arrivals along y before arrivals along x, and departures, which nobody else pays, first. -/
theorem lv_dma (c : Dev nD) (j : Fin 4) (k : Fin 8) (u : Unit) : lv (dCell c j k) u = if j = 1 then 2 else if j = 3 then 3 else 0 := by
  revert j k; show ∀ j k, lv ((0 : Dev nD).tc, .dma (dsem j k)) u = _; cases u; decide

/-- A debt to one semaphore is positive at that semaphore alone. -/
theorem tally_pos {g g' : GSem nD τ sig} {u u' : Unit} {n : ℕ} (h : 0 < (tallyAt g u n : Tally) g' u') : g' = g := by
  rw [tallyAt_apply] at h
  by_contra hn
  rw [if_neg (fun h' => hn h'.1)] at h
  exact Nat.lt_irrefl 0 h

/-- What is owed after the barrier are arrivals along y, while some are left, and arrivals along x. -/
theorem owed_pos {c : Dev nD} {n n' : ℕ} {g : GSem nD τ sig} {u : Unit} (h : 0 < owed c n n' g u) :
    (n < 8 ∧ ∃ k, g = dCell (yp c) 1 k) ∨ ∃ k, g = dCell (xp c) 3 k := by
  unfold owed at h
  rw [Pi.add_apply, Finsupp.add_apply] at h
  rcases Nat.add_pos_iff_pos_or_pos.mp h with h | h
  · refine Or.inl ⟨?_, ?_⟩
    · by_contra hn
      have : left (oweY c) n = 0 := by unfold left; exact Finset.sum_eq_zero fun k _ => if_pos (by omega)
      rw [this] at h; exact Nat.lt_irrefl 0 h
    · obtain ⟨k, hk⟩ := left_pos _ _ _ _ h
      exact ⟨k, tally_pos hk⟩
  · obtain ⟨k, hk⟩ := left_pos _ _ _ _ h
    exact Or.inr ⟨k, tally_pos hk⟩

/-- What is owed at the start are arrivals along y and along x, and signals on barriers. -/
theorem owed₀_pos {c : Dev nD} {g : GSem nD τ sig} {u : Unit} (h : 0 < owed₀ c g u) :
    (∃ d k, g = dCell d 1 k) ∨ (∃ d k, g = dCell d 3 k) ∨ ∃ d, g = barCell d := by
  unfold owed₀ owed₁ at h
  rw [Pi.add_apply, Finsupp.add_apply, Pi.add_apply, Finsupp.add_apply] at h
  rcases Nat.add_pos_iff_pos_or_pos.mp h with h | h
  · rcases Nat.add_pos_iff_pos_or_pos.mp h with h | h
    · rcases owed_pos h with ⟨-, k, e⟩ | ⟨k, e⟩
      · exact Or.inl ⟨_, k, e⟩
      · exact Or.inr (Or.inl ⟨_, k, e⟩)
    · exact Or.inr (Or.inr ⟨_, tally_pos h⟩)
  · exact Or.inr (Or.inr ⟨_, tally_pos h⟩)

/-- A wait ranked `r` is allowed while only cells ranked above `r` are owed. -/
theorem mayWait_of (c : Dev nD) (sm : SemLoc sig) (O : Tally) (r : ℕ) (hr : lv ((c : Thread nD τ), sm) () ≤ r)
    (hO : ∀ g u, 0 < O g u → (∃ d sm', g = ((d : Dev nD).tc, sm')) ∧ r < lv g u) :
    (levAts L lv : sProp 𝕄) ⊢ MayWait (c : Thread nD τ) sm () O :=
  MayOwe.of_cut (L := L) (lev := lv) r
    (fun p hp => by rw [Finset.mem_singleton.mp hp, L_tc]; exact Finset.mem_singleton_self _)
    (fun g u hg => by obtain ⟨⟨d, sm', rfl⟩, -⟩ := hO g u hg; exact Finset.mem_singleton_self _)
    (fun p hp => by rw [Finset.mem_singleton.mp hp]; exact hr)
    (fun g u hg => (hO g u hg).2)

/-- At the barrier only arrivals are owed. -/
theorem mayWait_bar (c : Dev nD) : (levAts L lv : sProp 𝕄) ⊢ MayWait (c : Thread nD τ) (.reg barS) () (owed c 0 0) :=
  mayWait_of c _ _ 1 (le_refl 1) fun g u h => by
    rcases owed_pos h with ⟨-, k, rfl⟩ | ⟨k, rfl⟩
    · exact ⟨⟨_, _, rfl⟩, by rw [lv_dma]; decide⟩
    · exact ⟨⟨_, _, rfl⟩, by rw [lv_dma]; decide⟩

/-- While it waits for arrivals along y a device owes arrivals along x only. -/
theorem mayWait_y (c : Dev nD) (k : Fin 8) (n' : ℕ) : (levAts L lv : sProp 𝕄) ⊢ MayWait (c : Thread nD τ) (.dma (dsem 1 k)) () (owed c 8 n') :=
  mayWait_of c _ _ 2 (by rw [lv_dma]; decide) fun g u h => by
    rcases owed_pos h with ⟨h8, -⟩ | ⟨k, rfl⟩
    · exact absurd h8 (Nat.lt_irrefl 8)
    · exact ⟨⟨_, _, rfl⟩, by rw [lv_dma]; decide⟩

/-- The staging semaphores are ranked below everything owed. -/
theorem mayWait_stage (c : Dev nD) (q : DmaSem sig) (hq : q.val < 2) (O : Tally) (hO : O = owed₀ c ∨ O = 0) :
    (levAts L lv : sProp 𝕄) ⊢ MayWait (c : Thread nD τ) (.dma q) () O := by
  rcases hO with rfl | rfl
  · refine mayWait_of c _ _ 0 (le_of_eq (if_pos (by omega))) fun g u h => ?_
    rcases owed₀_pos h with ⟨d, k, rfl⟩ | ⟨d, k, rfl⟩ | ⟨d, rfl⟩
    · exact ⟨⟨_, _, rfl⟩, by rw [lv_dma]; decide⟩
    · exact ⟨⟨_, _, rfl⟩, by rw [lv_dma]; decide⟩
    · exact ⟨⟨_, _, rfl⟩, Nat.one_pos⟩
  · rw [MayWait_zero]; iintro -; iempintro

end Cert.Exchange

end
-- ==== Proof.Steps.lean ====
/-
# The steps of the exchange

The kernel works through the eight chunks three times: it starts the copies along y; as each one arrives it adds,
stores and starts the copy along x; and it waits for everything that is still in flight. Each of the three passes
has one step, stated for every chunk, that takes the chunk from its state before to its state after.
-/
module

public import proofs.«01_k».proof.Proof.Protocol

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## Eight things, the first `n` of them done -/

omit [FloatOps F] in
/-- Eight assertions, the first `n` in their later form. -/
def mix (P Q : Fin 8 → sProp 𝕄) (n : ℕ) : sProp 𝕄 := bigSep Finset.univ fun k : Fin 8 => if k.val < n then P k else Q k

/-- Before the first step every chunk is as it was. -/
theorem mix_zero (P Q : Fin 8 → sProp 𝕄) : mix P Q 0 = bigSep Finset.univ Q :=
  bigSep_congr fun k _ => if_neg (Nat.not_lt_zero _)
/-- After the eighth step every chunk is done. -/
theorem mix_end (P Q : Fin 8 → sProp 𝕄) : mix P Q 8 = bigSep Finset.univ P :=
  bigSep_congr fun k _ => if_pos k.isLt

/-- The next of the eight is taken out, and put back in its later form. -/
theorem mix_step (P Q : Fin 8 → sProp 𝕄) (k : Fin 8) : mix P Q k.val ⊢ iprop(Q k ∗ (P k -∗ mix P Q (k.val + 1))) := by
  unfold mix
  rw [bigSep_univ_at _ k, bigSep_univ_at (fun i : Fin 8 => if i.val < k.val + 1 then P i else Q i) k,
    if_neg (Nat.lt_irrefl _), if_pos (Nat.lt_succ_self _)]
  have e : bigSep (Finset.univ.erase k) (fun i : Fin 8 => if i.val < k.val then P i else Q i)
      = bigSep (Finset.univ.erase k) (fun i : Fin 8 => if i.val < k.val + 1 then P i else Q i) :=
    bigSep_congr fun i hi => by
      have hne : i.val ≠ k.val := fun h => (Finset.mem_erase.mp hi).1 (Fin.ext h)
      by_cases h : i.val < k.val
      · rw [if_pos h, if_pos (by omega)]
      · rw [if_neg h, if_neg (by omega)]
  rw [e]
  iintro ⟨HQ, HR⟩
  isplitl [HQ]; · iexact HQ
  iintro HP
  isplitl [HP] <;> iassumption

/-! ## What every step may use -/

variable (X : Dev nD → XBuf F) (K : Dev nD × CIx → ℕ) (c : Dev nD)

/-- The semaphores' agreements, and that each of them has begun its round. -/
def records : sProp 𝕄 :=
  iprop((bigSep Finset.univ fun x : Dev nD × CIx => cellInv ER (sched X) (K x) (kcell x))
    ∗ bigSep Finset.univ fun x : Dev nD × CIx => reached ER (kcell x) 0)

/-- The ranks. -/
def ranks : sProp 𝕄 := levAts L lv
/-- The agreements and the ranks. -/
def common : sProp 𝕄 := iprop(records X K ∗ ranks)

omit [FloatOps F] in
instance ranks_persistent : BI.Persistent (ranks (F := F)) := by unfold ranks; infer_instance
instance records_persistent : BI.Persistent (records X K) := by unfold records; infer_instance
instance common_persistent : BI.Persistent (common X K) := by unfold common; infer_instance

/-- From the invariants of all semaphores, that of one. -/
theorem inv_mem (x : Dev nD × CIx) :
    (bigSep Finset.univ fun y : Dev nD × CIx => (cellInv ER (sched X) (K y) (kcell y) : sProp 𝕄)) ⊢ cellInv ER (sched X) (K x) (kcell x) :=
  bigSep_elim (Finset.mem_univ x)
/-- From the first rounds of all semaphores, that of one. -/
theorem reached_mem (x : Dev nD × CIx) :
    (bigSep Finset.univ fun y : Dev nD × CIx => (reached ER (kcell y) 0 : sProp 𝕄)) ⊢ reached ER (kcell x) 0 :=
  bigSep_elim (Finset.mem_univ x)
/-- What all steps share holds the invariant of each semaphore, -/
theorem common_inv (x : Dev nD × CIx) : common X K ⊢ cellInv ER (sched X) (K x) (kcell x) := by
  unfold common records
  iintro ⟨⟨H, -⟩, -⟩
  iapply (inv_mem X K x); iexact H
/-- its first round, -/
theorem common_reached (x : Dev nD × CIx) : common X K ⊢ reached ER (kcell x) 0 := by
  unfold common records
  iintro ⟨⟨-, H⟩, -⟩
  iapply (reached_mem (F := F) x); iexact H
/-- and the ranks. -/
theorem common_lev : common X K ⊢ iprop(ranks ∗ emp) := by
  unfold common
  iintro ⟨-, H⟩
  isplitl; · iexact H
  iempintro

/-- What a device owes, whatever it has waited for. -/
def owing (O : Tally) : sProp 𝕄 := iprop(∃ W : Waits sig Unit, owes (c : Thread nD τ) O W)

abbrev pos (j : Fin 4) (k : Fin 8) (r : ℕ) : sProp 𝕄 := atPos ER (dCell c j k) r ∅ 0
abbrev credit (j : Fin 4) (k : Fin 8) : sProp 𝕄 := cred (tallyAt (dCell c j k) () N)
abbrev tok (d : Dev nD) (j : Fin 4) (k : Fin 8) : sProp 𝕄 := dutyTok ER (dCell d j k) 0 false

/-- What the copies along y do not touch. -/
def later (k : Fin 8) : sProp 𝕄 :=
  iprop(pos c 0 k 0 ∗ pos c 1 k 0 ∗ pos c 2 k 0 ∗ pos c 3 k 0 ∗ credit c 1 k ∗ credit c 3 k
    ∗ tok c 2 k ∗ tok (xp c) 3 k ∗ (∃ f, outPts c (hx c, k) f) ∗ (∃ f, outPts (xp c) (hx c, k) f))
/-- A chunk after the barrier. -/
def chunk₀ (k : Fin 8) : sProp 𝕄 :=
  iprop(srcPts X c k ∗ (∃ f, rawPts (yp c) k f) ∗ tok c 0 k ∗ tok (yp c) 1 k ∗ later c k)
/-- A chunk whose copy along y has started. -/
def chunk₁ (k : Fin 8) : sProp 𝕄 := iprop(credit c 0 k ∗ later c k)
/-- A chunk whose copy along x has started too. -/
def chunk₂ (k : Fin 8) : sProp 𝕄 :=
  iprop(credit c 0 k ∗ credit c 2 k ∗ credit c 3 k ∗ pos c 0 k 0 ∗ pos c 1 k 1 ∗ pos c 2 k 0 ∗ pos c 3 k 0
    ∗ rawPts c k (rawAt X c))
/-- A finished chunk. -/
def chunk₃ (k : Fin 8) : sProp 𝕄 :=
  iprop((pos c 0 k 1 ∗ pos c 1 k 1 ∗ pos c 2 k 1 ∗ pos c 3 k 1)
    ∗ rawPts c k (rawAt X c) ∗ srcPts X c k ∗ outPts c (hx c, k) (outAt X c) ∗ outPts c (hx (xp c), k) (outAt X c))

/-- The other half of the share of the input block, from which it is loaded. -/
def xHalf : sProp 𝕄 := ((c : Thread nD τ).loc cc0_stg0_0) ↦{fullShare.left} X c

/-- The states of the three passes, `n` chunks into each. -/
def passY (n : ℕ) : sProp 𝕄 := iprop(common X K ∗ owing c (owed c n 0) ∗ mix (chunk₁ c) (chunk₀ X c) n)
def passX (n : ℕ) : sProp 𝕄 := iprop(common X K ∗ owing c (owed c 8 n) ∗ xHalf X c ∗ mix (chunk₂ X c) (chunk₁ c) n)
def passW (n : ℕ) : sProp 𝕄 := iprop(common X K ∗ owing c 0 ∗ mix (chunk₃ X c) (chunk₂ X c) n)

abbrev wpc {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The three passes' effects -/

/-- A wait for a whole copy of chunk `k`: what it hands over comes back. -/
theorem wait_copy (j : Fin 4) (k : Fin 8) (O : Tally) (hO : (levAts L lv : sProp 𝕄) ⊢ MayWait (c : Thread nD τ) (.dma (dsem j k)) () O)
    {sem : DmaSem sig} (hs : sem = dsem j k) {sp sp' : Space} {s s' : Shape} {e e' : EltTy} {src : Memref sig .tc sp' s' e'}
    {dst : Memref sig .tc sp s e} {hsrc : src.view.WordExact} {hdst : dst.view.WordExact} (hd : dst.view.dmaCredit = N)
    {α : Type} {Q : α → sProp 𝕄} {p : PUnit → Prog (TpuEff nD τ sig (Elt F) Λ₀ .tc) α} :
    iprop(common X K ∗ credit c j k ∗ owing c O ∗ pos c j k 0)
      ⊢ iprop(((owing c O ∗ pos c j k 1 ∗ dmaPay X c j k) -∗ wpc c (p ⟨⟩) Q)
          -∗ wpc c (.op (.waitDma2 sem src dst hsrc hdst) p) Q) := by
  subst hs
  have hm : common X K ⊢ MayWait (c : Thread nD τ) (.dma (dsem j k)) () O := (common_lev X K).trans (by
    unfold ranks
    exact (sep_mono_left hO).trans (sep_emp (PROP := sProp 𝕄)).1)
  unfold owing
  iintro ⟨#HC, Hcr, ⟨%W, HO⟩, Hat⟩ Hk
  iapply (Rounds.wp_wait_rest_token 𝒱₀ ER (sched X) (c : Thread nD τ) none (κ := K (c, some (j, k)))
      (wpE_waitDma2_eq 𝒱₀ (c : Thread nD τ) none Set.univ) (Set.mem_univ _) () (O := O) (W := W) (R := 0) (m := 0) (T := ∅)
      (by rw [Nat.zero_add, hd]; exact (expect_copy X c j k).symm)) $$ [Hcr HO Hat]
  · isplitr; · iapply (common_inv X K (c, some (j, k))); iexact HC
    isplitl [Hcr]; · rw [hd]; iexact Hcr
    isplitl [HO]; · iexact HO
    isplitr; · iapply hm; iexact HC
    iexact Hat
  iintro ⟨HO, Hat, -, Hpay⟩
  ihave Hp := (Entails.of_eq (rest_copy X c j k)) $$ Hpay
  iapply Hk
  isplitl [HO]; · iexists _; iexact HO
  isplitl [Hat]; · iexact Hat
  iexact Hp

/-- Starting the copy of chunk `k` along y. -/
theorem stepY (k : Fin 8) {n : Dev nD} (hn : n = yp c) {off : Fin 3 → ℕ} (ho : off = srcOff c k) {h₁} {off' : Fin 2 → ℕ} (ho' : off' = rawOff k) {h₂}
    {s₁ s₂ : DmaSem sig} (hs₁ : s₁ = dsem 0 k) (hs₂ : s₂ = dsem 1 k)
    {hsc : (rawM off' h₂ : Memref sig (Dev.tc n : Thread nD τ).2.kind .vmem S64x256 .f32).view.ref.isScScratch = false}
    {hsrc : (srcM off h₁).view.WordExact} {hdst : (rawM off' h₂).view.WordExact}
    {hsem : DmaTarget.Typed .vmem (.dma s₂) (.remote (Dev.tc n : Thread nD τ) (rawM off' h₂) (.dma s₁) hsc)}
    {α : Type} {Q : α → sProp 𝕄} {p : PUnit → Prog (TpuEff nD τ sig (Elt F) Λ₀ .tc) α} :
    passY X K c k.val
      ⊢ iprop((passY X K c (k.val + 1) -∗ wpc c (p ⟨⟩) Q)
          -∗ wpc c (.op (.enqueueDma (srcM off h₁) (.remote (Dev.tc n : Thread nD τ) (rawM off' h₂) (.dma s₁) hsc) (.dma s₂) hsrc hdst hsem) p) Q) := by
  subst hn ho ho' hs₁ hs₂
  unfold passY owing
  iintro ⟨#HC, ⟨%W, HO⟩, HM⟩ Hk
  ihave HM' := (mix_step (chunk₁ c) (chunk₀ X c) k) $$ HM
  unfold chunk₀
  icases HM' with ⟨⟨Hsrc, ⟨%f, Hraw⟩, Ht0, Ht1, Hl⟩, HM⟩
  iapply (Rounds.wp_send_pointsTo 𝒱₀ ER (sched X) (c : Thread nD τ) none (κ₁ := K (c, some (0, k))) (κ₂ := K (yp c, some (1, k)))
    (r₁ := 0) (r₂ := 0) (d₁ := false) (d₂ := false) (fs := X c) (fd := f) (q := fullShare.right) (c' := (Dev.tc (yp c) : Thread nD τ))
    (by rw [duties_copy]; exact Finset.mem_singleton_self _) (by rw [duties_copy]; exact Finset.mem_singleton_self _)
    () () N rfl (amount_copy X c 0 k false) (amount_copy X (yp c) 1 k false) (owed c (k.val + 1) 0) (owed_stepY c k 0) (W := W)
    (by rw [payload_copy, set_src]; exact BI.Entails.refl _)
    (by
      rw [payload_copy, set_raw]
      exact Entails.of_eq (pointsTo_congr fun i hi => landed_raw X c k _ _ f i hi))) $$ [Hsrc Hraw Ht0 Ht1 HO]
  · isplitr; · iapply (common_inv X K (c, some (0, k))); iexact HC
    isplitr; · iapply (common_inv X K (yp c, some (1, k))); iexact HC
    isplitl [Hsrc]; · rw [set_src]; unfold srcPts; iexact Hsrc
    isplitl [Hraw]; · rw [set_raw]; unfold rawPts; iexact Hraw
    isplitl [HO]; · iexact HO
    isplitl [Ht0]; · iexact Ht0
    isplitr; · iapply (common_reached X K (c, some (0, k))); iexact HC
    isplitl [Ht1]; · iexact Ht1
    iapply (common_reached X K (yp c, some (1, k))); iexact HC
  iintro ⟨Hcr, HO⟩
  iapply Hk
  isplitr; · iexact HC
  isplitl [HO]; · iexists W; iexact HO
  iapply HM
  unfold chunk₁
  isplitl [Hcr] <;> iassumption

/-- Starting the copy of chunk `k` of the result along x. -/
theorem send_x (k : Fin 8) {n : Dev nD} (hn : n = xp c) {off : Fin 2 → ℕ} (ho : off = outOff c k) {h₁ h₂}
    {s₁ s₂ : DmaSem sig} (hs₁ : s₁ = dsem 2 k) (hs₂ : s₂ = dsem 3 k)
    {hsc : (outM off h₂ : Memref sig (Dev.tc n : Thread nD τ).2.kind .vmem S64x256 .f32).view.ref.isScScratch = false}
    {hsrc : (outM off h₁).view.WordExact} {hdst : (outM off h₂).view.WordExact}
    {hsem : DmaTarget.Typed .vmem (.dma s₂) (.remote (Dev.tc n : Thread nD τ) (outM off h₂) (.dma s₁) hsc)}
    {α : Type} {Q : α → sProp 𝕄} {p : PUnit → Prog (TpuEff nD τ sig (Elt F) Λ₀ .tc) α} :
    iprop(common X K ∗ owing c (owed c 8 k.val) ∗ tok c 2 k ∗ tok (xp c) 3 k ∗ outPts c (hx c, k) (outAt X c) ∗ (∃ f, outPts (xp c) (hx c, k) f))
      ⊢ iprop(((credit c 2 k ∗ owing c (owed c 8 (k.val + 1))) -∗ wpc c (p ⟨⟩) Q)
          -∗ wpc c (.op (.enqueueDma (outM off h₁) (.remote (Dev.tc n : Thread nD τ) (outM off h₂) (.dma s₁) hsc) (.dma s₂) hsrc hdst hsem) p) Q) := by
  subst hn ho hs₁ hs₂
  unfold owing
  iintro ⟨#HC, ⟨%W, HO⟩, Ht0, Ht1, Hsrc, ⟨%f, Hdst⟩⟩ Hk
  iapply (Rounds.wp_send_pointsTo 𝒱₀ ER (sched X) (c : Thread nD τ) none (κ₁ := K (c, some (2, k))) (κ₂ := K (xp c, some (3, k)))
    (r₁ := 0) (r₂ := 0) (d₁ := false) (d₂ := false) (fs := outAt X c) (fd := f) (q := fullShare) (c' := (Dev.tc (xp c) : Thread nD τ))
    (by rw [duties_copy]; exact Finset.mem_singleton_self _) (by rw [duties_copy]; exact Finset.mem_singleton_self _)
    () () N rfl (amount_copy X c 2 k false) (amount_copy X (xp c) 3 k false) (owed c 8 (k.val + 1)) (owed_stepX c 8 k) (W := W)
    (by rw [payload_copy, set_out]; exact BI.Entails.refl _)
    (by
      rw [payload_copy, set_out]
      show _ ⊢ outPts (xp c) (hx (xp (xp c)), k) (outAt X (xp c))
      rw [xp_xp]
      exact Entails.of_eq (pointsTo_congr fun i hi => landed_out X c k _ _ f i hi))) $$ [Hsrc Hdst Ht0 Ht1 HO]
  · isplitr; · iapply (common_inv X K (c, some (2, k))); iexact HC
    isplitr; · iapply (common_inv X K (xp c, some (3, k))); iexact HC
    isplitl [Hsrc]; · rw [set_out]; unfold outPts; iexact Hsrc
    isplitl [Hdst]; · rw [set_out]; unfold outPts; iexact Hdst
    isplitl [HO]; · iexact HO
    isplitl [Ht0]; · iexact Ht0
    isplitr; · iapply (common_reached X K (c, some (2, k))); iexact HC
    isplitl [Ht1]; · iexact Ht1
    iapply (common_reached X K (xp c, some (3, k))); iexact HC
  iintro ⟨Hcr, HO⟩
  iapply Hk
  isplitl [Hcr]; · iexact Hcr
  iexists W; iexact HO

/-- As chunk `k` arrives along y: it is added to the own block, the sum is stored, and its copy along x starts. -/
theorem stepX (k : Fin 8)
    -- the wait
    {sem : DmaSem sig} (hs : sem = dsem 1 k) {sp sp' : Space} {s s' : Shape} {e e' : EltTy} {src : Memref sig .tc sp' s' e'}
    {dst : Memref sig .tc sp s e} {hws : src.view.WordExact} {hwd : dst.view.WordExact} (hd : dst.view.dmaCredit = N)
    -- the loads and the store
    {offx : Fin 3 → ℕ} (hox : offx = mineOff c k) {hix lx} {offr : Fin 2 → ℕ} (hor : offr = rawOff k) {hir lr}
    {offo : Fin 2 → ℕ} (hoo : offo = outOff c k) {hio lo}
    {pay : Vec F S1x64x256 .f32 → Vec F S64x256 .f32 → FVec F S64x256 .f32}
    (hpay : ∀ a b, pay a b = addf (shapeCast S64x256 a shapeCasts_S1x64x256_S64x256 : FVec F S64x256 .f32) b) {st hm}
    -- the copy
    {n : Dev nD} (hn : n = xp c) {off : Fin 2 → ℕ} (ho : off = outOff c k) {h₁ h₂}
    {s₁ s₂ : DmaSem sig} (hs₁ : s₁ = dsem 2 k) (hs₂ : s₂ = dsem 3 k)
    {hsc : (outM off h₂ : Memref sig (Dev.tc n : Thread nD τ).2.kind .vmem S64x256 .f32).view.ref.isScScratch = false}
    {hsrc : (outM off h₁).view.WordExact} {hdst : (outM off h₂).view.WordExact}
    {hsem : DmaTarget.Typed .vmem (.dma s₂) (.remote (Dev.tc n : Thread nD τ) (outM off h₂) (.dma s₁) hsc)}
    {α : Type} {Q : α → sProp 𝕄} {p : PUnit → Prog (TpuEff nD τ sig (Elt F) Λ₀ .tc) α} :
    passX X K c k.val
      ⊢ iprop((passX X K c (k.val + 1) -∗ wpc c (p ⟨⟩) Q)
          -∗ wpc c (.op (.waitDma2 sem src dst hws hwd) fun _ =>
              .op (.load xM (Rect.unit (s := S1x512x1024) offx S1x64x256.size hix).toLoadRect lx) fun a =>
              .op (.load rM (Rect.unit (s := S512x256) offr S64x256.size hir).toLoadRect lr) fun b =>
              .op (.load oM (Rect.unit (s := S512x512) offo S64x256.size hio).toLoadRect lo) fun _ =>
              .op (.store oM (Rect.unit (s := S512x512) offo S64x256.size hio) (pay a b) Finset.univ st hm) fun _ =>
              .op (.enqueueDma (outM off h₁) (.remote (Dev.tc n : Thread nD τ) (outM off h₂) (.dma s₁) hsc) (.dma s₂) hsrc hdst hsem) p) Q) := by
  subst hox hor hoo
  unfold passX
  iintro ⟨#HC, HO, Hx, HM⟩ Hk
  ihave HM' := (mix_step (chunk₂ X c) (chunk₁ c) k) $$ HM
  unfold chunk₁ later
  icases HM' with ⟨⟨Hc0, Ha0, Ha1, Ha2, Ha3, Hc1, Hc3, Ht2, Ht3, ⟨%g, Hown⟩, Hoth⟩, HM⟩
  iapply (wait_copy X K c 1 k (owed c 8 k.val) (mayWait_y c k k.val) hs hd) $$ [HO Ha1 Hc1]
  · isplitr; · iexact HC
    isplitl [Hc1]; · iexact Hc1
    isplitl [HO]; · iexact HO
    iexact Ha1
  iintro ⟨HO, Ha1, Hraw⟩
  ihave Hraw := (show dmaPay X c 1 k ⊢ rawPts c k (rawAt X c) from Entails.refl _) $$ Hraw
  unfold xHalf rawPts outPts
  iapply (wp_load 𝒱₀ (c : Thread nD τ) none Set.univ (m := xM) (Finset.subset_univ _)) $$ Hx; iintro Hx
  iapply (wp_load_rect 𝒱₀ (c : Thread nD τ) none Set.univ (m := rM) (r := Rect.unit (s := S512x256) (rawOff k) S64x256.size hir)
    (S := rawSet k) (le_of_eq (set_raw k hir))) $$ Hraw; iintro Hraw
  iapply (wp_load_rect 𝒱₀ (c : Thread nD τ) none Set.univ (m := oM) (r := Rect.unit (s := S512x512) (outOff c k) S64x256.size hio)
    (S := outSet (hx c, k)) (le_of_eq (set_out c k hio))) $$ Hown; iintro Hown
  iapply (wp_store 𝒱₀ (c : Thread nD τ) none Set.univ (m := oM) (r := Rect.unit (s := S512x512) (outOff c k) S64x256.size hio) (Mk := Finset.univ)
    (S := outSet (hx c, k)) (le_of_eq (set_out c k hio))) $$ Hown; iintro Hown
  rw [hpay]
  ihave Hown := (Entails.of_eq (pointsTo_congr fun i hi => stored_out X c k hix hir hio g i hi)) $$ Hown
  iapply (send_x X K c k hn ho hs₁ hs₂) $$ [HO Ht2 Ht3 Hown Hoth]
  · isplitr; · iexact HC
    isplitl [HO]; · iexact HO
    isplitl [Ht2]; · iexact Ht2
    isplitl [Ht3]; · iexact Ht3
    isplitl [Hown]; · unfold outPts; iexact Hown
    unfold outPts; iexact Hoth
  iintro ⟨Hc2, HO⟩
  iapply Hk
  isplitr; · iexact HC
  isplitl [HO]; · iexact HO
  isplitl [Hx]; · iexact Hx
  iapply HM
  unfold chunk₂ rawPts
  isplitl [Hc0]; · iexact Hc0
  isplitl [Hc2]; · iexact Hc2
  isplitl [Hc3]; · iexact Hc3
  isplitl [Ha0]; · iexact Ha0
  isplitl [Ha1]; · iexact Ha1
  isplitl [Ha2]; · iexact Ha2
  isplitl [Ha3]; · iexact Ha3
  iexact Hraw

/-- Nothing is owed any more, so every wait is allowed. -/
theorem mayWait_free (sm : SemLoc sig) : (levAts L lv : sProp 𝕄) ⊢ MayWait (c : Thread nD τ) sm () 0 := by
  rw [MayWait_zero]; iintro -; iempintro

/-- The three waits that finish chunk `k`. -/
theorem stepW (k : Fin 8)
    {q₁ : DmaSem sig} (hq₁ : q₁ = dsem 3 k) {sp₁ sp₁' : Space} {s₁ s₁' : Shape} {e₁ e₁' : EltTy} {src₁ : Memref sig .tc sp₁' s₁' e₁'}
    {dst₁ : Memref sig .tc sp₁ s₁ e₁} {ws₁ : src₁.view.WordExact} {wd₁ : dst₁.view.WordExact} (hd₁ : dst₁.view.dmaCredit = N)
    {q₂ : DmaSem sig} (hq₂ : q₂ = dsem 0 k) {sp₂ sp₂' : Space} {s₂ s₂' : Shape} {e₂ e₂' : EltTy} {src₂ : Memref sig .tc sp₂' s₂' e₂'}
    {dst₂ : Memref sig .tc sp₂ s₂ e₂} {ws₂ : src₂.view.WordExact} {wd₂ : dst₂.view.WordExact} (hd₂ : dst₂.view.dmaCredit = N)
    {q₃ : DmaSem sig} (hq₃ : q₃ = dsem 2 k) {sp₃ sp₃' : Space} {s₃ s₃' : Shape} {e₃ e₃' : EltTy} {src₃ : Memref sig .tc sp₃' s₃' e₃'}
    {dst₃ : Memref sig .tc sp₃ s₃ e₃} {ws₃ : src₃.view.WordExact} {wd₃ : dst₃.view.WordExact} (hd₃ : dst₃.view.dmaCredit = N)
    {α : Type} {Q : α → sProp 𝕄} {p : PUnit → Prog (TpuEff nD τ sig (Elt F) Λ₀ .tc) α} :
    passW X K c k.val
      ⊢ iprop((passW X K c (k.val + 1) -∗ wpc c (p ⟨⟩) Q)
          -∗ wpc c (.op (.waitDma2 q₁ src₁ dst₁ ws₁ wd₁) fun _ => .op (.waitDma2 q₂ src₂ dst₂ ws₂ wd₂) fun _ =>
              .op (.waitDma2 q₃ src₃ dst₃ ws₃ wd₃) p) Q) := by
  unfold passW
  iintro ⟨#HC, HO, HM⟩ Hk
  ihave HM' := (mix_step (chunk₃ X c) (chunk₂ X c) k) $$ HM
  unfold chunk₂
  icases HM' with ⟨⟨Hc0, Hc2, Hc3, Ha0, Ha1, Ha2, Ha3, Hraw⟩, HM⟩
  iapply (wait_copy X K c 3 k 0 (mayWait_free c _) hq₁ hd₁) $$ [HO Ha3 Hc3]
  · isplitr; · iexact HC
    isplitl [Hc3]; · iexact Hc3
    isplitl [HO]; · iexact HO
    iexact Ha3
  iintro ⟨HO, Ha3, Hoth⟩
  iapply (wait_copy X K c 0 k 0 (mayWait_free c _) hq₂ hd₂) $$ [HO Ha0 Hc0]
  · isplitr; · iexact HC
    isplitl [Hc0]; · iexact Hc0
    isplitl [HO]; · iexact HO
    iexact Ha0
  iintro ⟨HO, Ha0, Hsrc⟩
  iapply (wait_copy X K c 2 k 0 (mayWait_free c _) hq₃ hd₃) $$ [HO Ha2 Hc2]
  · isplitr; · iexact HC
    isplitl [Hc2]; · iexact Hc2
    isplitl [HO]; · iexact HO
    iexact Ha2
  iintro ⟨HO, Ha2, Hown⟩
  iapply Hk
  isplitr; · iexact HC
  isplitl [HO]; · iexact HO
  iapply HM
  unfold chunk₃ dmaPay
  isplitl [Ha0 Ha1 Ha2 Ha3]
  · isplitl [Ha0]; · iexact Ha0
    isplitl [Ha1]; · iexact Ha1
    isplitl [Ha2]; · iexact Ha2
    iexact Ha3
  isplitl [Hraw]; · iexact Hraw
  isplitl [Hsrc]; · iexact Hsrc
  isplitl [Hown]; · iexact Hown
  iexact Hoth

end Cert.Exchange

end
-- ==== Proof.Pieces.lean ====
/-
# Cutting the buffers into chunks and joining them again

The receive buffer is its eight chunks; the output block is the eight chunks of each of its two halves; of the
input block one half of the share is kept for the loads and the other is cut into the eight chunks that are sent
and what is left over.
-/
module

public import proofs.«01_k».proof.Proof.Steps

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XBuf F) (K : Dev nD × CIx → ℕ) (c : Dev nD)

/-- The sets of elements with different keys have nothing in common. -/
theorem fibre_disjoint {A B : Type} [Fintype A] [DecidableEq A] [DecidableEq B] (key : A → B) (b b' : B) (h : b ≠ b') :
    Disjoint (Finset.univ.filter fun a => key a = b) (Finset.univ.filter fun a => key a = b') :=
  Finset.disjoint_left.mpr fun a ha ha' => h ((Finset.mem_filter.mp ha).2.symm.trans (Finset.mem_filter.mp ha').2)

/-- The sets of elements with each key make up everything. -/
theorem fibre_cover {A B : Type} [Fintype A] [DecidableEq A] [Fintype B] [DecidableEq B] (key : A → B) :
    (Finset.univ : Finset B).biUnion (fun b => Finset.univ.filter fun a => key a = b) = Finset.univ := by
  ext a
  simp

/-- The eight chunks make up the whole receive buffer. -/
theorem raw_cover : (Finset.univ : Finset (Fin 8)).biUnion rawSet = Finset.univ := by
  ext i; simp [rawSet]
/-- The two halves in eight chunks each make up the whole output block. -/
theorem out_cover : (Finset.univ : Finset (Fin 2 × Fin 8)).biUnion outSet = Finset.univ := by
  ext i; simp only [outSet, Finset.mem_biUnion, Finset.mem_univ, true_and, Finset.mem_filter]; exact iff_of_true ⟨_, rfl⟩ trivial

/-- The receive buffer is its chunks. -/
theorem raw_split (f : RBuf F) :
    (((c : Thread nD τ).loc cc0_scratch0) ↦{fullShare} f : sProp 𝕄) = bigSep Finset.univ fun k => rawPts c k f := by
  have h := pointsTo_biUnion (Ix := Unit) (Val := Elt F) (Name := ℕ) (U := UU) (Lvl := ℕ) (ℓ := (c : Thread nD τ).loc cc0_scratch0)
    (q := fullShare) (f := f) Finset.univ rawSet fun k _ k' _ hk => fibre_disjoint _ k k' hk
  rw [raw_cover] at h
  exact h

/-- A device and its partner along x compute the two different halves. -/
theorem hx_two (c : Dev nD) : (hx c = 0 ∧ hx (xp c) = 1) ∨ (hx c = 1 ∧ hx (xp c) = 0) := by revert c; decide

/-- The output block is the chunks of the half the device computes and those of the other half. -/
theorem out_split (f : OBuf F) :
    (((c : Thread nD τ).loc cc0_stg1_0) ↦{fullShare} f : sProp 𝕄)
      ⊣⊢ iprop((bigSep Finset.univ fun k => outPts c (hx c, k) f) ∗ bigSep Finset.univ fun k => outPts c (hx (xp c), k) f) := by
  have h := pointsTo_biUnion (Ix := Unit) (Val := Elt F) (Name := ℕ) (U := UU) (Lvl := ℕ) (ℓ := (c : Thread nD τ).loc cc0_stg1_0)
    (q := fullShare) (f := f) Finset.univ outSet fun k _ k' _ hk => fibre_disjoint _ k k' hk
  rw [out_cover, bigSep_univ_prod, bigSep_univ_eq_bigSepL [0, 1] (by decide) (by decide), bigSepL_cons_cons, bigSepL_singleton] at h
  have h' : (((c : Thread nD τ).loc cc0_stg1_0) ↦{fullShare} f : sProp 𝕄)
      = iprop((bigSep Finset.univ fun k => outPts c (0, k) f) ∗ bigSep Finset.univ fun k => outPts c (1, k) f) := h
  rw [h']
  rcases hx_two c with ⟨e, e'⟩ | ⟨e, e'⟩ <;> rw [e, e']
  · exact ⟨BI.sep_comm, BI.sep_comm⟩

/-- What of the input block goes to nobody. -/
def srcRest : Finset S1x512x1024.Idx := Finset.univ \ (Finset.univ : Finset (Fin 8)).biUnion (srcSet c)
def xRest : sProp 𝕄 := ((c : Thread nD τ).loc cc0_stg0_0) ↦[srcRest c]{fullShare.right} X c

/-- Different chunks of what is sent along y have no element in common. -/
theorem src_disjoint (k k' : Fin 8) (h : k ≠ k') : Disjoint (srcSet c k) (srcSet c k') :=
  Finset.disjoint_left.mpr fun i hi hi' => h ((Finset.mem_filter.mp hi).2.1.symm.trans (Finset.mem_filter.mp hi').2.1)

/-- The input block is the half share for the loads, the chunks to send and the rest. -/
theorem x_split :
    (((c : Thread nD τ).loc cc0_stg0_0) ↦{fullShare} X c : sProp 𝕄)
      ⊣⊢ iprop(xHalf X c ∗ (bigSep Finset.univ fun k => srcPts X c k) ∗ xRest X c) := by
  have h₁ := pointsTo_share (Ix := Unit) (Val := Elt F) (Name := ℕ) (U := UU) (Lvl := ℕ) (ℓ := (c : Thread nD τ).loc cc0_stg0_0)
    (I := Finset.univ) (f := X c) (PosShare.mem_left_op_right fullShare)
  have h₂ := pointsTo_split_subset (Ix := Unit) (Val := Elt F) (Name := ℕ) (U := UU) (Lvl := ℕ) (ℓ := (c : Thread nD τ).loc cc0_stg0_0)
    (q := fullShare.right) (f := X c) (Finset.subset_univ ((Finset.univ : Finset (Fin 8)).biUnion (srcSet c)))
  have h₃ := pointsTo_biUnion (Ix := Unit) (Val := Elt F) (Name := ℕ) (U := UU) (Lvl := ℕ) (ℓ := (c : Thread nD τ).loc cc0_stg0_0)
    (q := fullShare.right) (f := X c) Finset.univ (srcSet c) fun k _ k' _ hk => src_disjoint c k k' hk
  rw [h₃] at h₂
  refine ⟨h₁.1.trans (sep_mono_right h₂.1), (sep_mono_right h₂.2).trans h₁.2⟩

/-! ## The chunks as the barrier leaves them, and as the last wait leaves them -/

/-- What a device holds of the protocol for one chunk when it starts. -/
def seed (k : Fin 8) : sProp 𝕄 :=
  iprop((pos c 0 k 0 ∗ pos c 1 k 0 ∗ pos c 2 k 0 ∗ pos c 3 k 0) ∗ credit c 1 k ∗ credit c 3 k
    ∗ tok c 0 k ∗ tok (yp c) 1 k ∗ tok c 2 k ∗ tok (xp c) 3 k)

/-- What a device holds of the protocol and of the buffers makes its eight chunks. -/
theorem chunks_intro :
    iprop((bigSep Finset.univ fun k => seed (F := F) c k) ∗ (bigSep Finset.univ fun k => srcPts X c k)
        ∗ (bigSep Finset.univ fun k => iprop(∃ f, rawPts (yp c) k f)) ∗ (bigSep Finset.univ fun k => iprop(∃ f, outPts c (hx c, k) f))
        ∗ (bigSep Finset.univ fun k => iprop(∃ f, outPts (xp c) (hx c, k) f)))
      ⊢ mix (chunk₁ c) (chunk₀ X c) 0 := by
  rw [mix_zero, ← bigSep_sep', ← bigSep_sep', ← bigSep_sep', ← bigSep_sep']
  refine bigSep_mono fun k _ => ?_
  unfold seed chunk₀ later
  change (_ : sProp 𝕄) ⊢ _
  iintro ⟨⟨⟨Ha0, Ha1, Ha2, Ha3⟩, Hc1, Hc3, Ht0, Ht1, Ht2, Ht3⟩, Hs, Hr, Ho, Hp⟩
  isplitl [Hs]; · iexact Hs
  isplitl [Hr]; · iexact Hr
  isplitl [Ht0]; · iexact Ht0
  isplitl [Ht1]; · iexact Ht1
  isplitl [Ha0]; · iexact Ha0
  isplitl [Ha1]; · iexact Ha1
  isplitl [Ha2]; · iexact Ha2
  isplitl [Ha3]; · iexact Ha3
  isplitl [Hc1]; · iexact Hc1
  isplitl [Hc3]; · iexact Hc3
  isplitl [Ht2]; · iexact Ht2
  isplitl [Ht3]; · iexact Ht3
  isplitl [Ho] <;> iassumption

/-- The finished chunks are the positions after the round and the pieces of the three buffers. -/
theorem chunks_elim :
    mix (chunk₃ X c) (chunk₂ X c) 8
      ⊢ iprop((bigSep Finset.univ fun k => iprop(pos (F := F) c 0 k 1 ∗ pos c 1 k 1 ∗ pos c 2 k 1 ∗ pos c 3 k 1))
        ∗ (bigSep Finset.univ fun k => rawPts c k (rawAt X c)) ∗ (bigSep Finset.univ fun k => srcPts X c k)
        ∗ (bigSep Finset.univ fun k => outPts c (hx c, k) (outAt X c)) ∗ (bigSep Finset.univ fun k => outPts c (hx (xp c), k) (outAt X c))) := by
  rw [mix_end, ← bigSep_sep', ← bigSep_sep', ← bigSep_sep', ← bigSep_sep']
  exact bigSep_mono fun k _ => Entails.refl _

/-- After its one round a semaphore's counter is the device's again, at zero. -/
theorem close_at (x : CIx) : iprop(common X K ∗ atPos ER (kcell (c, x)) 1 ∅ 0) ⊢ |={Set.univ}=> (semVal (kcell (c, x)) 0 : sProp 𝕄) := by
  iintro ⟨#HC, Hat⟩
  iapply (Rounds.cell_close ER (sched X) (Set.mem_univ (K (c, x))) (fun h => h) (R := 0 + 1) (duties_later X (kcell (c, x))))
  isplitr; · iapply (common_inv X K (c, x)); iexact HC
  iexact Hat

abbrev zero (j : Fin 4) (k : Fin 8) : sProp 𝕄 := semVal (dCell c j k) 0

/-- Every copy's semaphore is back at zero. -/
theorem close_copies :
    iprop(common X K ∗ bigSep Finset.univ fun k => iprop(pos (F := F) c 0 k 1 ∗ pos c 1 k 1 ∗ pos c 2 k 1 ∗ pos c 3 k 1))
      ⊢ |={Set.univ}=> bigSep Finset.univ fun k => iprop(zero (F := F) c 0 k ∗ zero c 1 k ∗ zero c 2 k ∗ zero c 3 k) := by
  refine (sep_mono_left (BI.bigSep_of_persistent (Finset.univ : Finset (Fin 8)) (common X K))).trans ?_
  rw [← bigSep_sep']
  refine (bigSep_mono fun k _ => ?_).trans (bigSep_fupd _ _)
  change (_ : sProp 𝕄) ⊢ _
  iintro ⟨#HC, Ha0, Ha1, Ha2, Ha3⟩
  imod (close_at X K c (some (0, k))) $$ [Ha0] with H0
  · isplitr; · iexact HC
    iexact Ha0
  imod (close_at X K c (some (1, k))) $$ [Ha1] with H1
  · isplitr; · iexact HC
    iexact Ha1
  imod (close_at X K c (some (2, k))) $$ [Ha2] with H2
  · isplitr; · iexact HC
    iexact Ha2
  imod (close_at X K c (some (3, k))) $$ [Ha3] with H3
  · isplitr; · iexact HC
    iexact Ha3
  imodintro
  isplitl [H0]; · iexact H0
  isplitl [H1]; · iexact H1
  isplitl [H2]; · iexact H2
  iexact H3

end Cert.Exchange

end
-- ==== Proof.Body.lean ====
/-
# One device's run of the kernel

The two signals and the wait at the barrier, then the three passes over the eight chunks, then the buffers joined
and the semaphores back at zero.
-/
module

public import proofs.«01_k».proof.Proof.Pieces

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XBuf F) (K : Dev nD × CIx → ℕ) (c : Dev nD)

/-- What a device holds of the protocol when it starts. -/
def ghost : sProp 𝕄 :=
  iprop(common X K ∗ atPos ER (barCell c) 0 ∅ 0 ∗ dutyTok ER (barCell (yp c)) 0 false ∗ dutyTok ER (barCell (xp c)) 0 true
    ∗ cred (tallyAt (barCell c) () 2) ∗ bigSep Finset.univ fun k => seed (F := F) c k)

/-- What it starts from: that, what it owes, and its buffers. -/
def entry : sProp 𝕄 :=
  iprop(ghost X K c ∗ owing c (owed₀ c) ∗ (bigSep Finset.univ fun k => srcPts X c k)
    ∗ (∃ f, ((c : Thread nD τ).loc cc0_scratch0) ↦{fullShare} f) ∗ (∃ f, ((c : Thread nD τ).loc cc0_stg1_0) ↦{fullShare} f))

/-- A family of pieces at given contents is one at some contents each. -/
theorem some_each {A : Type} (P : Fin 8 → A → sProp 𝕄) (f : A) :
    (bigSep Finset.univ fun k => P k f) ⊢ bigSep Finset.univ fun k => iprop(∃ g, P k g) :=
  bigSep_mono fun k _ => by
    change (_ : sProp 𝕄) ⊢ _
    iintro H
    iexists f; iexact H

/-- The barrier: each partner is told, with the pieces it will write to, and both are waited for. -/
theorem opening {n₁ n₂ : Dev nD} (hn₁ : n₁ = yp c) (hn₂ : n₂ = xp c) {a₁ a₂ a₃ : ℤ} (ha₁ : a₁ = (1 : ℕ)) (ha₂ : a₂ = (1 : ℕ)) (ha₃ : a₃ = (2 : ℕ))
    {s₁ s₂ s₃ : Sem sig} (hs₁ : s₁ = barS) (hs₂ : s₂ = barS) (hs₃ : s₃ = barS)
    {α : Type} {Q : α → sProp 𝕄} {p : PUnit → Prog (TpuEff nD τ sig (Elt F) Λ₀ .tc) α} :
    entry X K c
      ⊢ iprop(((atPos ER (barCell c) 1 ∅ 0 ∗ passY X K c 0) -∗ wpc c (p ⟨⟩) Q)
          -∗ wpc c (.op (.semSignal (Dev.tc n₁ : Thread nD τ) s₁ a₁) fun _ => .op (.semSignal (Dev.tc n₂ : Thread nD τ) s₂ a₂) fun _ =>
              .op (.semWait s₃ a₃) p) Q) := by
  subst hn₁ hn₂ ha₁ ha₂ ha₃ hs₁ hs₂ hs₃
  have hm : common X K ⊢ MayWait (c : Thread nD τ) (.reg barS) () (owed c 0 0) := (common_lev X K).trans (by
    unfold ranks
    exact (sep_mono_left (mayWait_bar c)).trans (sep_emp (PROP := sProp 𝕄)).1)
  unfold entry ghost owing
  iintro ⟨⟨#HC, Hat, HtY, HtX, Hcr, Hseed⟩, ⟨%W, HO⟩, Hsrc, ⟨%fr, Hraw⟩, ⟨%fo, Hout⟩⟩ Hk
  ihave Hraw := (Entails.of_eq (raw_split c fr)) $$ Hraw
  ihave Hout := (out_split c fo).1 $$ Hout
  icases Hout with ⟨Hown, Hoth⟩
  iapply (Rounds.wp_signal 𝒱₀ ER (sched X) (c : Thread nD τ) none (dst := (yp c : Thread nD τ)) (κ := K (yp c, none))
      (d := false) (by rw [duties_bar]; exact Finset.mem_univ _) (amount_bar X (yp c) false) () (owed₁ c) rfl)
    $$ [HO HtY Hraw]
  · isplitr; · iapply (common_inv X K (yp c, none)); iexact HC
    isplitl [HO]; · iexact HO
    isplitl [HtY]; · iexact HtY
    isplitl [Hraw]
    · rw [payload_bar]; unfold barPay; rw [yp_yp]
      iapply (some_each (fun k f => rawPts c k f) fr); iexact Hraw
    iapply (common_reached X K (yp c, none)); iexact HC
  iintro HO
  iapply (Rounds.wp_signal 𝒱₀ ER (sched X) (c : Thread nD τ) none (dst := (xp c : Thread nD τ)) (κ := K (xp c, none))
      (d := true) (by rw [duties_bar]; exact Finset.mem_univ _) (amount_bar X (xp c) true) () (owed c 0 0) rfl)
    $$ [HO HtX Hoth]
  · isplitr; · iapply (common_inv X K (xp c, none)); iexact HC
    isplitl [HO]; · iexact HO
    isplitl [HtX]; · iexact HtX
    isplitl [Hoth]
    · rw [payload_bar]; unfold barPay; rw [xp_xp]
      iapply (some_each (fun k f => outPts c (hx (xp c), k) f) fo); iexact Hoth
    iapply (common_reached X K (xp c, none)); iexact HC
  iintro HO
  iapply (Rounds.wp_wait_rest_token 𝒱₀ ER (sched X) (c : Thread nD τ) none (κ := K (c, none))
      (wpE_semWait_eq 𝒱₀ (c : Thread nD τ) none Set.univ) (Set.mem_univ _) () (O := owed c 0 0) (W := W) (R := 0) (m := 0) (T := ∅)
      (by rw [Nat.zero_add]; exact (expect_bar X c).symm)) $$ [Hcr HO Hat]
  · isplitr; · iapply (common_inv X K (c, none)); iexact HC
    isplitl [Hcr]; · iexact Hcr
    isplitl [HO]; · iexact HO
    isplitr; · iapply hm; iexact HC
    iexact Hat
  iintro ⟨HO, Hat, -, Hpay⟩
  ihave Hp := (Entails.of_eq (rest_bar X c)) $$ Hpay
  unfold barPay
  icases Hp with ⟨HrawY, HoutX⟩
  iapply Hk
  isplitl [Hat]; · iexact Hat
  unfold passY owing
  isplitr; · iexact HC
  isplitl [HO]; · iexists _; iexact HO
  iapply (chunks_intro X c)
  isplitl [Hseed]; · iexact Hseed
  isplitl [Hsrc]; · iexact Hsrc
  isplitl [HrawY]; · iexact HrawY
  isplitl [Hown]
  · iapply (some_each (fun k f => outPts c (hx c, k) f) fo); iexact Hown
  iexact HoutX

/-- A step under a frame. -/
theorem next {R A B G W : sProp 𝕄} (h : A ⊢ iprop((B -∗ G) -∗ W)) (h' : iprop(R ∗ B) ⊢ G) : iprop(R ∗ A) ⊢ W := by
  iintro ⟨HR, HA⟩
  iapply h $$ HA
  iintro HB
  iapply h'
  isplitl [HR] <;> iassumption

/-- From the barrier to the first pass. -/
theorem turn_start {P G : sProp 𝕄}
    (h : iprop(((P ∗ atPos ER (barCell c) 1 ∅ 0 ∗ xRest X c) ∗ xHalf X c) ∗ passY X K c 0) ⊢ G) :
    iprop((P ∗ xRest X c ∗ xHalf X c) ∗ atPos ER (barCell c) 1 ∅ 0 ∗ passY X K c 0) ⊢ G := by
  refine BIBase.Entails.trans ?_ h
  iintro ⟨⟨HP, Hr, Hx⟩, Hat, HM⟩
  isplitr [HM]
  · isplitr [Hx]
    · isplitl [HP]; · iexact HP
      isplitl [Hat] <;> iassumption
    iexact Hx
  iexact HM

/-- From the first pass to the second. -/
theorem turn_x {R G : sProp 𝕄} (h : iprop(R ∗ passX X K c 0) ⊢ G) : iprop((R ∗ xHalf X c) ∗ passY X K c 8) ⊢ G := by
  refine BIBase.Entails.trans ?_ h
  unfold passY passX
  rw [mix_end, mix_zero]
  iintro ⟨⟨HR, Hx⟩, HC, HO, HM⟩
  isplitl [HR]; · iexact HR
  isplitl [HC]; · iexact HC
  isplitl [HO]; · iexact HO
  isplitl [Hx]; · iexact Hx
  iexact HM

/-- From the second pass to the third. -/
theorem turn_w {R G : sProp 𝕄} (h : iprop((R ∗ xHalf X c) ∗ passW X K c 0) ⊢ G) : iprop(R ∗ passX X K c 8) ⊢ G := by
  refine BIBase.Entails.trans ?_ h
  unfold passX passW
  rw [mix_end, mix_zero, owed_end]
  iintro ⟨HR, HC, HO, Hx, HM⟩
  isplitl [HR Hx]
  · isplitl [HR] <;> iassumption
  isplitl [HC]; · iexact HC
  isplitl [HO]; · iexact HO
  iexact HM

/-- Every semaphore of a device at zero. -/
def allZero : sProp 𝕄 :=
  iprop(semVal (barCell c) 0 ∗ bigSep Finset.univ fun k => iprop(zero (F := F) c 0 k ∗ zero c 1 k ∗ zero c 2 k ∗ zero c 3 k))

/-- What a device ends with. -/
def outcome : sProp 𝕄 :=
  iprop(owing c 0 ∗ allZero c ∗ (((c : Thread nD τ).loc cc0_scratch0) ↦{fullShare} rawAt X c)
    ∗ (((c : Thread nD τ).loc cc0_stg0_0) ↦{fullShare} X c) ∗ (((c : Thread nD τ).loc cc0_stg1_0) ↦{fullShare} outAt X c))

/-- The end: the semaphores are handed back and the buffers joined. -/
theorem closing {Q : PUnit → sProp 𝕄} :
    iprop((((outcome X c -∗ Q ⟨⟩) ∗ atPos ER (barCell c) 1 ∅ 0 ∗ xRest X c) ∗ xHalf X c) ∗ passW X K c 8) ⊢ wpc c (.ret ⟨⟩) Q := by
  unfold passW
  iintro ⟨⟨⟨Hk, Hat, Hrest⟩, Hhalf⟩, #HC, HO, HM⟩
  ihave HM' := (chunks_elim X c) $$ HM
  icases HM' with ⟨Hpos, Hraw, Hsrc, Hown, Hoth⟩
  imod (close_at X K c none) $$ [Hat] with HzB
  · isplitr; · iexact HC
    iexact Hat
  imod (close_copies X K c) $$ [Hpos] with Hz
  · isplitr; · iexact HC
    iexact Hpos
  rw [wp_ret]; imodintro
  iapply Hk
  unfold outcome allZero
  isplitl [HO]; · iexact HO
  isplitl [HzB Hz]
  · isplitl [HzB] <;> iassumption
  isplitl [Hraw]
  · iapply (Entails.of_eq (raw_split c (rawAt X c)).symm); iexact Hraw
  isplitl [Hhalf Hsrc Hrest]
  · iapply (x_split X c).2
    isplitl [Hhalf]; · iexact Hhalf
    isplitl [Hsrc] <;> iassumption
  iapply (out_split c (outAt X c)).2
  isplitl [Hown] <;> iassumption

set_option maxHeartbeats 400000 in
set_option maxRecDepth 8000 in
/-- The body runs from what a device starts with to what it ends with. -/
theorem body_run (Q : PUnit → sProp 𝕄) :
    iprop(((outcome X c -∗ Q ⟨⟩) ∗ xRest X c ∗ xHalf X c) ∗ entry X K c)
      ⊢ wpc c (cc0_body (Memref.whole cc0_stg0_0) (Memref.isWhole_whole _) (Memref.whole cc0_stg1_0) (Memref.isWhole_whole _)
          (Memref.whole cc0_scratch0) (Memref.isWhole_whole _) cc0_scratch1 cc0_scratch2 cc0_scratch3 cc0_scratch4) Q := by
  rw [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel
  simp only [semSignalWord, semWaitWord, Prog.lift, Prog.bind_op, Prog.bind_ret, Prog.pure_eq_ret, wp_deviceId]
  refine next (opening X K c (Fin.ext (k0_dev1_eq c)) (Fin.ext (k0_dev2_eq c)) rfl rfl rfl rfl rfl rfl) ?_
  refine (show _ ⊢ _ from turn_start X K c ?_)
  refine next (stepY X K c 0 (Fin.ext (k0_dev3_eq c)) (k0_off1_eq c) rfl rfl rfl) ?_
  refine next (stepY X K c 1 (Fin.ext (k0_dev4_eq c)) (k0_off2_eq c) rfl rfl rfl) ?_
  refine next (stepY X K c 2 (Fin.ext (k0_dev5_eq c)) (k0_off3_eq c) rfl rfl rfl) ?_
  refine next (stepY X K c 3 (Fin.ext (k0_dev6_eq c)) (k0_off4_eq c) rfl rfl rfl) ?_
  refine next (stepY X K c 4 (Fin.ext (k0_dev7_eq c)) (k0_off5_eq c) rfl rfl rfl) ?_
  refine next (stepY X K c 5 (Fin.ext (k0_dev8_eq c)) (k0_off6_eq c) rfl rfl rfl) ?_
  refine next (stepY X K c 6 (Fin.ext (k0_dev9_eq c)) (k0_off7_eq c) rfl rfl rfl) ?_
  refine next (stepY X K c 7 (Fin.ext (k0_dev10_eq c)) (k0_off8_eq c) rfl rfl rfl) ?_
  refine turn_x X K c ?_
  refine next (stepX X K c 0 rfl rfl (k0_off9_eq c) rfl (k0_off10_eq c) (fun _ _ => rfl) (Fin.ext (k0_dev11_eq c)) (k0_off11_eq c) rfl rfl) ?_
  refine next (stepX X K c 1 rfl rfl (k0_off12_eq c) rfl (k0_off13_eq c) (fun _ _ => rfl) (Fin.ext (k0_dev12_eq c)) (k0_off14_eq c) rfl rfl) ?_
  refine next (stepX X K c 2 rfl rfl (k0_off15_eq c) rfl (k0_off16_eq c) (fun _ _ => rfl) (Fin.ext (k0_dev13_eq c)) (k0_off17_eq c) rfl rfl) ?_
  refine next (stepX X K c 3 rfl rfl (k0_off18_eq c) rfl (k0_off19_eq c) (fun _ _ => rfl) (Fin.ext (k0_dev14_eq c)) (k0_off20_eq c) rfl rfl) ?_
  refine next (stepX X K c 4 rfl rfl (k0_off21_eq c) rfl (k0_off22_eq c) (fun _ _ => rfl) (Fin.ext (k0_dev15_eq c)) (k0_off23_eq c) rfl rfl) ?_
  refine next (stepX X K c 5 rfl rfl (k0_off24_eq c) rfl (k0_off25_eq c) (fun _ _ => rfl) (Fin.ext (k0_dev16_eq c)) (k0_off26_eq c) rfl rfl) ?_
  refine next (stepX X K c 6 rfl rfl (k0_off27_eq c) rfl (k0_off28_eq c) (fun _ _ => rfl) (Fin.ext (k0_dev17_eq c)) (k0_off29_eq c) rfl rfl) ?_
  refine next (stepX X K c 7 rfl rfl (k0_off30_eq c) rfl (k0_off31_eq c) (fun _ _ => rfl) (Fin.ext (k0_dev18_eq c)) (k0_off32_eq c) rfl rfl) ?_
  refine turn_w X K c ?_
  refine next (stepW X K c 0 rfl rfl rfl rfl rfl rfl) ?_
  refine next (stepW X K c 1 rfl rfl rfl rfl rfl rfl) ?_
  refine next (stepW X K c 2 rfl rfl rfl rfl rfl rfl) ?_
  refine next (stepW X K c 3 rfl rfl rfl rfl rfl rfl) ?_
  refine next (stepW X K c 4 rfl rfl rfl rfl rfl rfl) ?_
  refine next (stepW X K c 5 rfl rfl rfl rfl rfl rfl) ?_
  refine next (stepW X K c 6 rfl rfl rfl rfl rfl rfl) ?_
  refine next (stepW X K c 7 rfl rfl rfl rfl rfl rfl) ?_
  exact closing X K c

end Cert.Exchange

end
-- ==== Proof.Setup.lean ====
/-
# Setting the protocol up

The launch mints every semaphore's one round with its tokens. Here they are dealt out: a device keeps its own
positions, and the tokens of what it will pay come to it from the partners whose semaphores they are for. What it
is owed at the start is counted, and comes to it as its credits.
-/
module

public import proofs.«01_k».proof.Proof.Body

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XBuf F) (K : Dev nD × CIx → ℕ) (c : Dev nD)

/-! ## Assertions for every semaphore of a device -/

/-- For the thirty-two copies: chunk by chunk, for the four kinds. -/
theorem copies_eq (Φ : Fin 4 × Fin 8 → sProp 𝕄) :
    bigSep Finset.univ Φ = bigSep Finset.univ fun k => iprop(Φ (0, k) ∗ Φ (1, k) ∗ Φ (2, k) ∗ Φ (3, k)) := by
  rw [bigSep_univ_prod, bigSep_univ_eq_bigSepL [0, 1, 2, 3] (by decide) (by decide), bigSep_sep', bigSep_sep', bigSep_sep']
  rfl

/-- For all thirty-three: the barrier, then the copies. -/
theorem cells_eq (Φ : CIx → sProp 𝕄) : bigSep Finset.univ Φ = iprop(Φ none ∗ bigSep Finset.univ fun p => Φ (some p)) := by
  have e : (Finset.univ : Finset CIx).erase none = Finset.univ.map Function.Embedding.some := by
    ext x
    rcases x with _ | p <;> simp
  rw [bigSep_univ_at Φ none, e, bigSep_map]
  rfl

/-- A persistent assertion is used for every one of a family. -/
theorem for_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The tokens -/

/-- The tokens as minted: two for every semaphore. -/
abbrev mintAt (x : Dev nD × CIx × Bool) : GSem nD τ sig × ℕ × Bool := (kcell (x.1, x.2.1), 0, x.2.2)
/-- Different payments have different tokens. -/
theorem mintAt_injective : Function.Injective mintAt := by
  rintro ⟨c, x, b⟩ ⟨c', x', b'⟩ h
  have h1 := kcell_injective (congrArg (fun y : GSem nD τ sig × ℕ × Bool => y.1) h)
  have h2 : b = b' := congrArg (fun y : GSem nD τ sig × ℕ × Bool => y.2.2) h
  have h3 : c = c' := (Prod.mk.inj h1).1
  have h4 : x = x' := (Prod.mk.inj h1).2
  rw [h2, h3, h4]

def allCells : Finset (GSem nD τ sig) := Finset.univ.map ⟨kcell, kcell_injective⟩
def allToks : Finset (GSem nD τ sig × ℕ × Bool) := Finset.univ.map ⟨mintAt, mintAt_injective⟩

/-- The tokens of a device's own semaphores. -/
def minted : sProp 𝕄 := bigSep Finset.univ fun x : CIx × Bool => dutyTok ER (kcell (c, x.1)) 0 x.2
/-- Those among them that are used. -/
def ownToks : sProp 𝕄 :=
  iprop(dutyTok ER (barCell c) 0 false ∗ dutyTok ER (barCell c) 0 true
    ∗ (bigSep Finset.univ fun k => tok (F := F) c 0 k) ∗ (bigSep Finset.univ fun k => tok (F := F) c 1 k)
    ∗ (bigSep Finset.univ fun k => tok (F := F) c 2 k) ∗ bigSep Finset.univ fun k => tok (F := F) c 3 k)
/-- The tokens of what a device pays. -/
def payToks : sProp 𝕄 :=
  iprop(dutyTok ER (barCell (yp c)) 0 false ∗ dutyTok ER (barCell (xp c)) 0 true
    ∗ (bigSep Finset.univ fun k => tok (F := F) c 0 k) ∗ (bigSep Finset.univ fun k => tok (F := F) (yp c) 1 k)
    ∗ (bigSep Finset.univ fun k => tok (F := F) c 2 k) ∗ bigSep Finset.univ fun k => tok (F := F) (xp c) 3 k)

/-- A family over the two Booleans is its two members. -/
theorem bool_eq (Φ : Bool → sProp 𝕄) : bigSep Finset.univ Φ = iprop(Φ false ∗ Φ true) := by
  rw [bigSep_univ_eq_bigSepL [false, true] (by decide) (by decide), bigSepL_cons_cons, bigSepL_singleton]
  rfl

/-- The tokens made at a device's semaphores, sorted by chunk. -/
theorem minted_own : minted (F := F) c ⊢ ownToks c := by
  unfold minted ownToks
  rw [bigSep_univ_prod, cells_eq, bool_eq, copies_eq]
  simp only [bool_eq, bigSep_sep']
  iintro ⟨⟨H1, H2⟩, ⟨Ha, -⟩, ⟨Hb, -⟩, ⟨Hc, -⟩, ⟨Hd, -⟩⟩
  isplitl [H1]; · iexact H1
  isplitl [H2]; · iexact H2
  isplitl [Ha]; · iexact Ha
  isplitl [Hb]; · iexact Hb
  isplitl [Hc]; · iexact Hc
  iexact Hd

/-- Every device's tokens go to the partners that pay. -/
theorem toks_dealt : (bigSep Finset.univ fun c : Dev nD => minted (F := F) c) ⊢ bigSep Finset.univ fun c : Dev nD => payToks (F := F) c := by
  refine (bigSep_mono fun c _ => minted_own c).trans ?_
  unfold ownToks payToks
  simp only [bigSep_sep']
  rw [bigSep_univ_equiv yEquiv (fun c : Dev nD => (dutyTok ER (barCell c) 0 false : sProp 𝕄)),
    bigSep_univ_equiv xEquiv (fun c : Dev nD => (dutyTok ER (barCell c) 0 true : sProp 𝕄)),
    bigSep_univ_equiv yEquiv (fun c : Dev nD => bigSep Finset.univ fun k => tok (F := F) c 1 k),
    bigSep_univ_equiv xEquiv (fun c : Dev nD => bigSep Finset.univ fun k => tok (F := F) c 3 k)]
  exact Entails.refl _

/-! ## What every device gets -/

/-- What the launch deals to a device. -/
def dealt : sProp 𝕄 :=
  iprop((bigSep Finset.univ fun x : CIx => roundState ER (sched X) (kcell (c, x)) 0)
    ∗ (bigSep Finset.univ fun x : CIx => iprop(atPos ER (kcell (c, x)) 0 ∅ 0 ∗ reached ER (kcell (c, x)) 0)) ∗ minted c)

/-- What the launch's element is made of is dealt to the devices. -/
theorem fund_all : BI.own (ER (initOf allCells allToks)) ⊢ (|==> bigSep Finset.univ (dealt X) : sProp 𝕄) := by
  have hC (Φ : GSem nD τ sig → sProp 𝕄) : bigSep allCells Φ = bigSep Finset.univ fun c : Dev nD => bigSep Finset.univ fun x : CIx => Φ (kcell (c, x)) := by
    unfold allCells; rw [bigSep_map, bigSep_univ_prod]; rfl
  have hT : bigSep allToks (fun x => (dutyTok ER x.1 x.2.1 x.2.2 : sProp 𝕄)) = bigSep Finset.univ fun c : Dev nD => minted (F := F) c := by
    unfold allToks minted; rw [bigSep_map, bigSep_univ_prod]; rfl
  iintro H
  imod (Rounds.fund ER (sched X) allCells allToks) $$ H with ⟨Hst, Hr, Hat, Htok⟩
  imodintro
  ihave Hst' := (Entails.of_eq (hC fun g => roundState ER (sched X) g 0)) $$ Hst
  ihave Hat' := (Entails.of_eq (hC fun g => atPos ER g 0 ∅ 0)) $$ Hat
  ihave Hr' := (Entails.of_eq (hC fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-- The kernel's own semaphores. -/
abbrev osem (p : Fin 4 × Fin 8) : SemLoc sig := .dma (dsem p.1 p.2)

abbrev ownSems (c : Dev nD) : sProp 𝕄 := Pipeline.ownSems0 (Ix := Unit) (Name := ℕ) (U := UU) (Lvl := ℕ) (Val := Elt F) (τ := τ) osem c

/-- A device's copy semaphores, sorted by chunk. -/
theorem ownSems_eq : ownSems (F := F) c = bigSep Finset.univ fun k => iprop(zero (F := F) c 0 k ∗ zero c 1 k ∗ zero c 2 k ∗ zero c 3 k) :=
  copies_eq (F := F) fun p => semVal ((c : Thread nD τ), osem p) 0
/-- The barrier semaphore outlives the kernel. -/
theorem outerSems_eq : (unscopedSems0 c : sProp 𝕄) = semVal (barCell c) 0 := by
  unfold unscopedSems0; rw [bigSep_eq_bigSepL_of_eq [SemLoc.reg barS] (by decide) (by decide)]; rfl

/-- A device's copy semaphores and its barrier are all that count. -/
theorem sems_eq : iprop(ownSems (F := F) c ∗ unscopedSems0 c) ⊢ (bigSep Finset.univ fun x : CIx => semVal (kcell (c, x)) 0 : sProp 𝕄) := by
  rw [outerSems_eq, cells_eq]
  iintro ⟨HS, HB⟩
  isplitl [HB]; · iexact HB
  unfold ownSems Pipeline.ownSems0
  iexact HS

/-- A device's semaphores begin their rounds. -/
theorem begin_rounds :
    iprop(ownSems (F := F) c ∗ unscopedSems0 c ∗ dealt X c)
      ⊢ |={Set.univ}=> iprop((bigSep Finset.univ fun x : CIx => iprop(∃ κ : ℕ, cellInv ER (sched X) κ (kcell (c, x))))
          ∗ (bigSep Finset.univ fun x : CIx => iprop(atPos ER (kcell (c, x)) 0 ∅ 0 ∗ reached ER (kcell (c, x)) 0)) ∗ minted c) := by
  unfold dealt
  iintro ⟨Hos, Hus, Hst, Hat, Htok⟩
  ihave Hv := (sems_eq (F := F) c) $$ [Hos Hus]
  · isplitl [Hos] <;> iassumption
  imod (show iprop((bigSep Finset.univ fun x : CIx => semVal (kcell (c, x)) 0) ∗ bigSep Finset.univ fun x : CIx => roundState ER (sched X) (kcell (c, x)) 0)
      ⊢ (|={Set.univ}=> bigSep Finset.univ fun x : CIx => iprop(∃ κ : ℕ, cellInv ER (sched X) κ (kcell (c, x))) : sProp 𝕄) from by
        rw [← bigSep_sep']
        exact (bigSep_mono fun x _ => (Rounds.body_intro ER (sched X) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

/-- What a device alone holds. -/
def alone : sProp 𝕄 := iprop((bigSep Finset.univ fun x : CIx => atPos ER (kcell (c, x)) 0 ∅ 0) ∗ payToks c)
/-- What a device has once all are set up. -/
def ready : sProp 𝕄 := iprop(∃ K, records X K ∗ alone c)

/-- With the tokens dealt to those who pay, every device is ready. -/
theorem all_ready :
    (bigSep Finset.univ fun c : Dev nD => iprop((bigSep Finset.univ fun x : CIx => iprop(∃ κ : ℕ, cellInv ER (sched X) κ (kcell (c, x))))
          ∗ (bigSep Finset.univ fun x : CIx => iprop(atPos ER (kcell (c, x)) 0 ∅ 0 ∗ reached ER (kcell (c, x)) 0)) ∗ minted c) : sProp 𝕄)
      ⊢ bigSep Finset.univ (ready X) := by
  rw [bigSep_sep', bigSep_sep', ← bigSep_univ_prod (fun x : Dev nD × CIx => iprop(∃ κ : ℕ, cellInv ER (sched X) κ (kcell x))),
    bigSep_congr (s := Finset.univ) (fun (c : Dev nD) _ => bigSep_sep' Finset.univ (fun x : CIx => (atPos ER (kcell (c, x)) 0 ∅ 0 : sProp 𝕄)) (fun x => reached ER (kcell (c, x)) 0)),
    bigSep_sep', ← bigSep_univ_prod (fun x : Dev nD × CIx => (reached ER (kcell x) 0 : sProp 𝕄))]
  iintro ⟨HI, ⟨Hat, #HR⟩, Htok⟩
  ihave HK := (BI.bigSep_exists_pi Finset.univ (fun (x : Dev nD × CIx) (κ : ℕ) => (cellInv ER (sched X) κ (kcell x) : sProp 𝕄))) $$ HI
  icases HK with ⟨%K, #HI⟩
  ihave Htk := (toks_dealt (F := F)) $$ Htok
  have hr (c : Dev nD) : iprop(records X K ∗ alone c) ⊢ ready X c := by
    unfold ready
    iintro H
    iexists K; iexact H
  iapply (for_each (R := records X K) (Φ := alone) fun c _ => hr c)
  isplitr
  · unfold records; isplitl; · iexact HI
    iexact HR
  · unfold alone; rw [bigSep_sep']
    isplitl [Hat]; · iexact Hat
    iexact Htk

/-- From every device's semaphores at zero, all are set up at once. -/
theorem set_up : (bigSep Finset.univ fun c => iprop(ownSems (F := F) c ∗ unscopedSems0 c ∗ dealt X c) : sProp 𝕄)
    ⊢ |={Set.univ}=> bigSep Finset.univ (ready X) :=
  ((bigSep_mono fun c _ => begin_rounds X c).trans (bigSep_fupd _ _)).trans (BI.fupd_mono (all_ready X))

/-! ## The credits -/

/-- What eight arrivals put on a semaphore of a copy. -/
theorem arrivals_copy (d c : Dev nD) (j j' : Fin 4) (k : Fin 8) :
    (∑ k', (tallyAt (dCell d j' k') () N : Tally)) (dCell c j k) () = if d = c ∧ j' = j then N else 0 := by
  rw [Finset.sum_apply, Finsupp.finset_sum_apply]
  have e (k' : Fin 8) : (tallyAt (dCell d j' k') () N : Tally) (dCell c j k) () = if k' = k ∧ d = c ∧ j' = j then N else 0 := by
    rw [tallyAt_apply]
    refine if_congr ⟨fun ⟨h, _⟩ => ?_, fun ⟨h₁, h₂, h₃⟩ => ⟨by rw [h₁, h₂, h₃], rfl⟩⟩ rfl rfl
    have := kcell_injective (show kcell (c, some (j, k)) = kcell (d, some (j', k')) from h)
    obtain ⟨h₁, h₂⟩ := Prod.mk.inj this
    obtain ⟨h₃, h₄⟩ := Prod.mk.inj (Option.some.inj h₂)
    exact ⟨h₄.symm, h₁.symm, h₃.symm⟩
  rw [Finset.sum_congr rfl fun k' _ => e k', Finset.sum_eq_single k]
  · exact if_congr ⟨fun h => h.2, fun h => ⟨rfl, h⟩⟩ rfl rfl
  · exact fun k' _ h => if_neg fun h' => h h'.1
  · exact fun h => absurd (Finset.mem_univ k) h

/-- No arrival of a copy counts on a barrier. -/
theorem arrivals_bar (d c : Dev nD) (j' : Fin 4) : (∑ k', (tallyAt (dCell d j' k') () N : Tally)) (barCell c) () = 0 := by
  rw [Finset.sum_apply, Finsupp.finset_sum_apply]
  exact Finset.sum_eq_zero fun k' _ => by rw [tallyAt_apply]; exact if_neg fun h => by cases congrArg Prod.snd h.1
/-- No signal counts on a copy's semaphore. -/
theorem signal_copy (d c : Dev nD) (j : Fin 4) (k : Fin 8) : (tallyAt (barCell d) () 1 : Tally) (dCell c j k) () = 0 := by
  rw [tallyAt_apply]; exact if_neg fun h => by cases congrArg Prod.snd h.1
/-- A signal counts on the barrier that it names alone. -/
theorem signal_bar (d c : Dev nD) : (tallyAt (barCell d) () 1 : Tally) (barCell c) () = if d = c then 1 else 0 := by
  rw [tallyAt_apply]
  exact if_congr ⟨fun h => (congrArg (fun g : GSem nD τ sig => g.1.1) h.1).symm, fun h => ⟨by rw [h], rfl⟩⟩ rfl rfl

/-- What a device owes a semaphore at the start, as a sum. -/
theorem owed₀_apply (d : Dev nD) (g : GSem nD τ sig) :
    owed₀ d g () = (∑ k, (tallyAt (dCell (yp d) 1 k) () N : Tally)) g () + (∑ k, (tallyAt (dCell (xp d) 3 k) () N : Tally)) g ()
      + (tallyAt (barCell (xp d)) () 1 : Tally) g () + (tallyAt (barCell (yp d)) () 1 : Tally) g () := by
  unfold owed₀ owed₁ owed
  rw [left_zero, left_zero]
  rfl

/-- One device is the partner of a given one. -/
theorem sum_partner (e : Dev nD ≃ Dev nD) (c : Dev nD) (n : ℕ) : (∑ d : Dev nD, if e d = c then n else 0) = n := by
  rw [Finset.sum_congr rfl fun d _ => if_congr (e.apply_eq_iff_eq_symm_apply (x := d) (y := c)) rfl rfl,
    Finset.sum_ite_eq' Finset.univ (e.symm c) fun _ => n, if_pos (Finset.mem_univ _)]

/-- All together the devices owe each barrier two units. -/
theorem total_bar : (∑ d : Dev nD, owed₀ d (barCell c) ()) = 2 := by
  have e (d : Dev nD) : owed₀ d (barCell c) () = (if xEquiv d = c then 1 else 0) + (if yEquiv d = c then 1 else 0) := by
    rw [owed₀_apply, arrivals_bar, arrivals_bar, signal_bar, signal_bar]; exact congrArg₂ (· + ·) (Nat.zero_add _) rfl
  rw [Finset.sum_congr rfl fun d _ => e d, Finset.sum_add_distrib, sum_partner, sum_partner]
/-- All together they owe each arrival along y one chunk. -/
theorem total_y (k : Fin 8) : (∑ d : Dev nD, owed₀ d (dCell c 1 k) ()) = N := by
  have e (d : Dev nD) : owed₀ d (dCell c 1 k) () = if yEquiv d = c then N else 0 := by
    rw [owed₀_apply, arrivals_copy, arrivals_copy, signal_copy, signal_copy, if_neg (c := _ ∧ (3 : Fin 4) = 1) (fun h => by cases h.2)]
    exact if_congr ⟨fun h => h.1, fun h => ⟨h, rfl⟩⟩ rfl rfl
  rw [Finset.sum_congr rfl fun d _ => e d, sum_partner]
/-- All together they owe each arrival along x one chunk. -/
theorem total_x (k : Fin 8) : (∑ d : Dev nD, owed₀ d (dCell c 3 k) ()) = N := by
  have e (d : Dev nD) : owed₀ d (dCell c 3 k) () = if xEquiv d = c then N else 0 := by
    rw [owed₀_apply, arrivals_copy, arrivals_copy, signal_copy, signal_copy, if_neg (c := _ ∧ (1 : Fin 4) = 3) (fun h => by cases h.2)]
    refine (Nat.zero_add _).trans ?_
    exact if_congr ⟨fun h => h.1, fun h => ⟨h, rfl⟩⟩ rfl rfl
  rw [Finset.sum_congr rfl fun d _ => e d, sum_partner]

/-- What is owed to a semaphore is its credit at the start. -/
theorem launch_credit (g : GSem nD τ sig) (n : ℕ) (h : (∑ d : Dev nD, owed₀ d g ()) = n) :
    tallyOn g (launchCredit (Pipeline.owing owed₀) 0 g) = (tallyAt g () n : Tally) := by
  unfold tallyAt; refine congrArg _ (Finsupp.ext fun u => ?_); cases u
  rw [Pipeline.launchCredit_owing, Finsupp.single_eq_same, h]

/-- A device's credits: its barrier's two units, and the arrivals. -/
theorem credits :
    (Pipeline.launchCred owed₀ c : sProp 𝕄)
      ⊢ iprop(cred (tallyAt (barCell c) () 2) ∗ (bigSep Finset.univ fun k => credit (F := F) c 1 k) ∗ bigSep Finset.univ fun k => credit (F := F) c 3 k) := by
  unfold Pipeline.launchCred
  refine (bigSep_subset (Finset.subset_univ ((Finset.univ : Finset CIx).map ⟨csem, csem_injective⟩))).trans ?_
  rw [bigSep_map, cells_eq, copies_eq, bigSep_sep', bigSep_sep', bigSep_sep']
  change (_ : sProp 𝕄) ⊢ _
  iintro ⟨Hb, -, Hy, -, Hx⟩
  isplitl [Hb]; · rw [← launch_credit (barCell c) 2 (total_bar c)]; iexact Hb
  isplitl [Hy]
  · rw [bigSep_congr (s := Finset.univ) fun (k : Fin 8) _ => congrArg cred (launch_credit (dCell c 1 k) N (total_y c k)).symm]; iexact Hy
  · rw [bigSep_congr (s := Finset.univ) fun (k : Fin 8) _ => congrArg cred (launch_credit (dCell c 3 k) N (total_x c k)).symm]; iexact Hx

/-- A device's positions, credits and tokens, chunk by chunk. -/
theorem seeds_intro :
    iprop((bigSep Finset.univ fun k => iprop(pos (F := F) c 0 k 0 ∗ pos c 1 k 0 ∗ pos c 2 k 0 ∗ pos c 3 k 0))
        ∗ (bigSep Finset.univ fun k => credit (F := F) c 1 k) ∗ (bigSep Finset.univ fun k => credit (F := F) c 3 k)
        ∗ (bigSep Finset.univ fun k => tok (F := F) c 0 k) ∗ (bigSep Finset.univ fun k => tok (F := F) (yp c) 1 k)
        ∗ (bigSep Finset.univ fun k => tok (F := F) c 2 k) ∗ bigSep Finset.univ fun k => tok (F := F) (xp c) 3 k)
      ⊢ bigSep Finset.univ fun k => seed (F := F) c k := by
  rw [← bigSep_sep', ← bigSep_sep', ← bigSep_sep', ← bigSep_sep', ← bigSep_sep', ← bigSep_sep']
  exact bigSep_mono fun k _ => Entails.refl _

/-- Set up, ranked and credited, a device has what its run starts from. -/
theorem ghost_intro : iprop(ready X c ∗ levAts L lv ∗ Pipeline.launchCred owed₀ c) ⊢ iprop(∃ K, ghost X K c) := by
  unfold ready alone payToks
  iintro ⟨⟨%K, HR, Hat, HtY, HtX, H0, H1, H2, H3⟩, Hlev, Hcr⟩
  ihave Hcr := (credits (F := F) c) $$ Hcr
  icases Hcr with ⟨Hb, Hy, Hx⟩
  ihave Hat := (Entails.of_eq ((cells_eq (F := F) fun x : CIx => atPos ER (kcell (c, x)) 0 ∅ 0).trans
    (by rw [copies_eq]))) $$ Hat
  icases Hat with ⟨HaB, Hat⟩
  iexists K
  unfold ghost common ranks
  isplitl [HR Hlev]
  · isplitl [HR] <;> iassumption
  isplitl [HaB]; · iexact HaB
  isplitl [HtY]; · iexact HtY
  isplitl [HtX]; · iexact HtX
  isplitl [Hb]; · iexact Hb
  iapply (seeds_intro (F := F) c)
  isplitl [Hat]; · iexact Hat
  isplitl [Hy]; · iexact Hy
  isplitl [Hx]; · iexact Hx
  isplitl [H0]; · iexact H0
  isplitl [H1]; · iexact H1
  isplitl [H2]; · iexact H2
  iexact H3

end Cert.Exchange

end
-- ==== Proof.Run.lean ====
/-
# The whole run

Every device's body meets its obligation, and the launch puts the devices together: for any float values and from
any memory with its counters at zero the run ends, each device's result is the sum of its block and its partner's
at its columns, its input is unchanged and every counter is zero.
-/
module

public import proofs.«01_k».proof.Proof.Setup
public import proofs.«01_k».proof.Proof.Gen.KernelIdeal.Points
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero. -/
def s₀ : MemSt nD τ sig (Elt F) := ⟨m, fun _ => 0, ρ⟩

/-- What a device's staging buffer holds: its block of the input. -/
def xstg (c : Dev nD) : XBuf F := (win0_0.blk (0 : Fin 1)).view.read (Elt F) ((s₀ m ρ).mem ((c : Thread nD τ).loc main_arg0))

/-- Before the body: what the protocol starts from, and the receive buffer. -/
def Φ₀ (c : Dev nD) : sProp 𝕄 := iprop((∃ K, ghost (xstg m ρ) K c) ∗ ∃ f : RBuf F, ((c : Thread nD τ).loc cc0_scratch0) ↦{fullShare} f)
/-- After it: the counters at zero, and the receive buffer. -/
def Φ₁ (c : Dev nD) : sProp 𝕄 := iprop(allZero c ∗ (((c : Thread nD τ).loc cc0_scratch0) ↦{fullShare} rawAt (xstg m ρ) c))

/-- The pipeline's account of one device. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt (xstg m ρ) c
  Φ t := match t with
    | ⟨0, _⟩ => Φ₀ m ρ c
    | ⟨_ + 1, _⟩ => Φ₁ m ρ c
  q _ := fullShare
  owed t := match t with
    | ⟨0, _⟩ => owed₀ c
    | ⟨_ + 1, _⟩ => 0

/-! ## The body's obligation -/

/-- A staging buffer held at contents `Y`. -/
abbrev holds (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-- Holding a whole buffer through its reference is holding the buffer. -/
theorem owns_eq (c : Dev nD) (b : Ref sig .tc) (Y : b.ty.Contents (Elt F)) :
    (owns (Ix := Unit) (Name := ℕ) (U := UU) (Lvl := ℕ) (c : Thread nD τ) (Memref.whole b) fullShare Y : sProp 𝕄) = holds c b Y := by
  unfold owns; simp only [Memref.view_whole, View.read_whole, View.set_whole]

def bodyPre (c : Dev nD) : sProp 𝕄 :=
  iprop(Φ₀ m ρ c ∗ (dats m ρ 0 c).owesAt () t0_0.castSucc
    ∗ (∃ d, holds c cc0_stg0_0 ((dats m ρ 0 c).before (0 : Fin 2) t0_0 d))
    ∗ (∃ d, holds c cc0_stg1_0 ((dats m ρ 0 c).before (1 : Fin 2) t0_0 d)))
def bodyPost (c : Dev nD) : sProp 𝕄 :=
  iprop(Φ₁ m ρ c ∗ (dats m ρ 0 c).owesAt () t0_0.succ ∗ holds c cc0_stg0_0 (xstg m ρ c) ∗ holds c cc0_stg1_0 (outAt (xstg m ρ) c))

/-- What a device ends with is what the pipeline expects. -/
theorem outcome_post (c : Dev nD) : outcome (xstg m ρ) c ⊢ bodyPost m ρ c := by
  unfold outcome bodyPost Φ₁ owing Dat.owesAt Pipeline.owesWithin
  rw [show (dats m ρ 0 c).owed t0_0.succ = 0 from rfl]
  iintro ⟨⟨%W, HO⟩, Hz, Hraw, Hx, Hout⟩
  isplitl [Hz Hraw]
  · isplitl [Hz] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

/-- The body takes what the pipeline hands it to what the pipeline expects. -/
theorem body_sound (c : Dev nD) :
    bodyPre m ρ c ⊢ wpc c (cc0_body (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4) (fun _ => bodyPost m ρ c) := by
  unfold bodyPre Φ₀
  iintro ⟨⟨⟨%K, HG⟩, ⟨%fr, Hraw⟩⟩, Ho, ⟨%d0, %g0, %hg0, Hx⟩, ⟨%d1, %g1, %hg1, Hout⟩⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = owed₀ c from rfl]
  ihave Hx := (x_split (xstg m ρ) c).1 $$ Hx
  icases Hx with ⟨Hhalf, Hsrc, Hrest⟩
  iapply (body_run (xstg m ρ) K c fun _ => bodyPost m ρ c)
  isplitl [Hhalf Hrest]
  · isplitr
    · iintro H; iapply (outcome_post m ρ c); iexact H
    isplitl [Hrest] <;> iassumption
  unfold entry owing
  isplitl [HG]; · iexact HG
  isplitl [HO]; · iexists W; iexact HO
  isplitl [Hsrc]; · iexact Hsrc
  isplitl [Hraw]; · iexists fr; iexact Hraw
  iexists g1; iexact Hout

set_option maxRecDepth 8000 in
/-- The body's obligation to the pipeline, at its one point. -/
theorem body_obligation (c : Dev nD) : BodyObligation (dats (F := F) m ρ 0 c) (defs₀ (F := F)) 𝒱₀ () Set.univ := fun t => by
  rw [fin_N0 t]
  rw [bigSep_W0, bigSep_W0]
  simp only [owns_eq]
  show bodyPre m ρ c ⊢ _
  exact body_sound m ρ c

/-! ## The launch -/

/-- The kernel's own semaphores are none of the pipeline's. -/
theorem ownSemFacts : Pipeline.OwnSemFacts cfg0.spec osem := by decide

/-- The pipeline holds each array whole. -/
theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allToks)

/-- What the launch deals to a device makes what the protocol starts from. -/
theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ ready (xstg m ρ) c)
      ⊢ |={Set.univ}=> iprop((∃ K, ghost (xstg m ρ) K c) ∗ emp) := by
  iintro ⟨-, Hlev, Hcr, -, HG⟩
  imodintro
  isplitl
  · iapply (ghost_intro (xstg m ρ) c)
    isplitl [HG]; · iexact HG
    isplitl [Hlev] <;> iassumption
  · iempintro

/-- With the receive buffer, that is what holds before the body. -/
theorem phi0_intro (c : Dev nD) :
    iprop((∃ K, ghost (xstg m ρ) K c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

/-- What holds after the body gives every semaphore and the receive buffer back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq,
    show (Pipeline.ownSems0 osem c : sProp 𝕄) = _ from ownSems_eq (F := F) c, outerSems_eq]
  unfold Φ₁ allZero
  iintro ⟨⟨HB, Hz⟩, Hr⟩
  isplitl [HB]; · iexact HB
  isplitl [Hz]; · iexact Hz
  iexists (rawAt (xstg m ρ) c); iexact Hr

/-- The pipeline's own waits are allowed under what a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The arrays of the two windows when the pipeline is done. -/
def finalA (c : Dev nD) (w : Fin cfg0.W) : Buf (Elt F) ((cfg0.win w).arr.view.loc (c : Thread nD τ)) := (dats m ρ 0 c).arrAt w cfg0.N

/-- Every device's arrays are at those contents. -/
def Ended : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- The whole run, on sixteen devices: it ends, the arrays are at their contents and every counter is zero. -/
theorem run_main : θ_run defs (onTc (τ := τ) (main (F := F))) (s₀ m ρ) (fun r => Ended m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := dealt (xstg m ρ)) (G' := ready (xstg m ρ)) (u₀ := u₀)
    (hu₀ := by
      unfold u₀
      iintro Hu
      ihave H := (ownU_pair _ _) $$ Hu
      icases H with ⟨HP, HX⟩
      imod (fund_all (xstg m ρ)) $$ HX with HG
      imodintro
      isplitl [HP] <;> iassumption)
    (hglob := set_up (xstg m ρ))
    (hA := fun _ _ => rfl) (hpf := fun _ k => k.elim0)
    (X := fun c => iprop(∃ K, ghost (xstg m ρ) K c)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array holds what it held. -/
theorem finalA_x (c : Dev nD) : finalA m ρ c (0 : Fin 2) = m ((c : Thread nD τ).loc main_arg0) :=
  (dats (F := F) m ρ 0 c).arrAt_in (0 : Fin 2) rfl _

end Cert.Exchange

end
-- ==== Proof.Value.lean ====
/-
# The value of the result

What the run leaves in the result array of a device is the device's block of the plain sum. The partners along y
hold the two blocks of the input, so adding a device's block and its partner's, in either order, is the sum over
the outer dimension; and the partners along x have the same columns, so both halves belong to one block of it.
-/
module

public import proofs.«01_k».proof.Proof.Run
public import proofs.«01_k».proof.Proof.Gen.ReferenceIdeal
public import Idealize.ShloMosaic.Lib.Pointwise.Reduce
public import Idealize.ShloMosaic.Lib.Layout

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The arrays after the run -/

section
variable (m : (ℓ : Loc nD τ sig) → Buf (Elt F) ℓ) (ρ : Dev nD → PrngReg)

/-- The staged input is the whole argument: its window is one block. -/
theorem staged_x (c : Dev nD) : xstg m ρ c = m ((c : Thread nD τ).loc main_arg0) :=
  Memref.read_access_unit_zero (Elt F) main_arg0 (funext fun a => by fin_cases a <;> decide) (fun a => by fin_cases a <;> decide) _

/-- The result array ends as the output buffer did: its window is one block, written back once. -/
theorem finalA_out (c : Dev nD) : finalA m ρ c (1 : Fin 2) = outAt (fun d : Dev nD => m ((d : Thread nD τ).loc main_arg0)) c := by
  have whole := Memref.read_access_unit_zero (Elt F) main_v1 (off := fun a => (win0_1.index (0 : Fin 1)) a * main_v1.ty.shape.size a)
    (funext fun a => by fin_cases a <;> decide) (fun a => by fin_cases a <;> decide) (finalA m ρ c (1 : Fin 2))
  have inputs : xstg m ρ = fun d : Dev nD => m ((d : Thread nD τ).loc main_arg0) := funext (staged_x m ρ)
  rw [← inputs]
  refine whole.symm.trans ?_
  have one : finalA m ρ c (1 : Fin 2) = (dats m ρ 0 c).arrAt (1 : Fin 2) (t0_0.val + 1) := rfl
  rw [one, (dats m ρ 0 c).arrAt_succ (1 : Fin 2) t0_0, if_pos (flush0_1 t0_0)]
  exact View.read_write_univ _ _

end

/-! ## The plain sum, and its blocks -/

/-- The whole input's shape. -/
abbrev S2x512x1024 : Shape := ⟨3, ![2, 512, 1024]⟩

/-- The plain sum over the outer dimension, at an element. -/
def plain (x : S2x512x1024.Idx → EReal) (r : Fin 512) (j : Fin 1024) : EReal :=
  x (ValueIdx.ix3 (0 : Fin 2) r j) + x (ValueIdx.ix3 (1 : Fin 2) r j)

/-- The y coordinate of a device: which block of the input it holds. -/
def hy (c : Dev nD) : Fin 2 := ⟨c.val / 4 % 2, by omega⟩

/-- The two partners along y hold the two blocks. -/
theorem hy_cases (c : Dev nD) : (hy c = 0 ∧ hy (yp c) = 1) ∨ (hy c = 1 ∧ hy (yp c) = 0) := by revert c; decide

/-- What a device's input holds, as an element of the whole. -/
theorem block_in (x : S2x512x1024.Idx → EReal) (c : Dev nD) (r : Fin 512) (j : ℕ) (hj : j < 1024) :
    (Layout.blockN ⟨3, ![1, 512, 1024]⟩ ⟨3, ![2, 512, 1024]⟩ (Layout.meshBlock [2, 2, 4] ![[1], [], []] c) x) (xIx r j hj)
      = x (ValueIdx.ix3 (hy c) r ⟨j, hj⟩) := by
  rw [Layout.blockN_apply]
  congr 1
  funext a
  apply Fin.ext
  rw [Layout.TilesN.idx_val]
  fin_cases a
  · show (Layout.meshLin [2, 2, 4] c.val [1]) * 1 + 0 = c.val / 4 % 2
    revert c; decide
  · show 0 * 512 + r.val = r.val; omega
  · show 0 * 1024 + j = j; omega

/-- The sums a device computes are elements of the plain sum. -/
theorem sum_plain (x : S2x512x1024.Idx → EReal) (X : Dev nD → XBuf Ideal)
    (hX : ∀ c, X c = Layout.blockN ⟨3, ![1, 512, 1024]⟩ ⟨3, ![2, 512, 1024]⟩ (Layout.meshBlock [2, 2, 4] ![[1], [], []] c) x)
    (c : Dev nD) (i : S512x512.Idx) (hj : base c + (i 1).val < 1024) :
    sumAt X c i = plain x (i 0) ⟨base c + (i 1).val, hj⟩ := by
  have own := (congrFun (hX c) _).trans (block_in x c (i 0) _ hj)
  have other := (congrFun (hX (yp c)) _).trans (block_in x (yp c) (i 0) _ hj)
  refine (congrArg₂ (α := EReal) (β := EReal) (· + ·) own other : _).trans ?_
  rcases hy_cases c with ⟨h, h'⟩ | ⟨h, h'⟩ <;> rw [h, h']
  · rfl
  · exact add_comm _ _

/-- A device's whole result is its block of the plain sum. -/
theorem out_plain (x : S2x512x1024.Idx → EReal) (X : Dev nD → XBuf Ideal)
    (hX : ∀ c, X c = Layout.blockN ⟨3, ![1, 512, 1024]⟩ ⟨3, ![2, 512, 1024]⟩ (Layout.meshBlock [2, 2, 4] ![[1], [], []] c) x)
    (c : Dev nD) (i : S512x512.Idx) (hj : base c + (i 1).val < 1024) :
    outAt X c i = plain x (i 0) ⟨base c + (i 1).val, hj⟩ := by
  unfold outAt
  split
  · exact sum_plain x X hX c i hj
  · have e := base_xp c
    rw [sum_plain x X hX (xp c) i (by rw [e]; exact hj)]
    congr 2; rw [e]

/-- The reference's reduction, at an element. -/
theorem reduce_plain (x : S2x512x1024.Idx → EReal) (i : (⟨2, ![512, 1024]⟩ : Shape).Idx) :
    (Host.reduceAdd (F := Ideal) (φ := .f32) x (constant ⟨0, ![]⟩ .f32 0x00000000#32)
      Cert.ReferenceIdeal.Gen.reducesTo_S2x512x1024_S512x1024_d0 Cert.ReferenceIdeal.Gen.h_S_) i = plain x (i 0) (i 1) := by
  rw [Host.reduceAdd_apply, Ideal.hostReduceAdd_def, Ideal.hostReduceAdd_r3_a0, Fin.sum_univ_two]
  have z : (constant (F := Ideal) ⟨0, ![]⟩ .f32 0x00000000#32) (Shape.Idx.first Cert.ReferenceIdeal.Gen.h_S_) = (0 : EReal) := Ideal.ofBits_zero_f32
  rw [z, zero_add]
  rfl

/-- The blocks of the reference's reduction are what the devices end with. -/
theorem out_block (x : S2x512x1024.Idx → EReal) (X : Dev nD → XBuf Ideal)
    (hX : ∀ c, X c = Layout.blockN ⟨3, ![1, 512, 1024]⟩ ⟨3, ![2, 512, 1024]⟩ (Layout.meshBlock [2, 2, 4] ![[1], [], []] c) x) (c : Dev nD) :
    outAt X c = Layout.blockN ⟨2, ![512, 512]⟩ ⟨2, ![512, 1024]⟩ (Layout.meshBlock [2, 2, 4] ![[], [1]] c)
      (Host.reduceAdd (F := Ideal) (φ := .f32) x (constant ⟨0, ![]⟩ .f32 0x00000000#32)
        Cert.ReferenceIdeal.Gen.reducesTo_S2x512x1024_S512x1024_d0 Cert.ReferenceIdeal.Gen.h_S_) := by
  funext i
  have h1 : (i 1).val < 512 := (i 1).isLt
  have hb := base_le c
  have hj : base c + (i 1).val < 1024 := by omega
  rw [out_plain x X hX c i hj, Layout.blockN_apply, reduce_plain]
  congr 1 <;> apply Fin.ext
  · show (i 0).val = 0 * 512 + (i 0).val; omega
  · show base c + (i 1).val = Layout.meshLin [2, 2, 4] c.val [1] * 512 + (i 1).val
    have e : base c = Layout.meshLin [2, 2, 4] c.val [1] * 512 := by clear hj hb; revert c; decide
    rw [e]

end Cert.Exchange

end
-- ==== Proof.lean ====
/-
# The claims, proved
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import Idealize.ShloMosaic.Lib.Quiescent

@[expose] public section

noncomputable section

namespace Cert.Proof

open Idealize.ShloMosaic Idealize.SL.Sem

/-- The two programs' tables of kernel bodies agree: the bodies are the same text. -/
theorem bodies_eq : Cert.Kernel.defs₀ (F := Bits) = Cert.KernelIdeal.defs₀ (F := Bits) := by
  unfold Cert.Kernel.defs₀ Cert.KernelIdeal.defs₀
  congr 1
  funext l a
  match l, a with
  | ⟨0, _⟩, (t, s) => rfl
  | ⟨_ + 1, h⟩, _ => exact absurd h (Nat.not_lt.2 (Nat.le_add_left _ _))

/-- So do the whole tables. -/
theorem tables_eq : Cert.Kernel.defs (F := Bits) = Cert.KernelIdeal.defs (F := Bits) :=
  congrArg (Pipeline.defs Cert.KernelIdeal.pcfgs) bodies_eq

/-- The kernel as printed: it ends from any memory with its counters at zero, leaves its argument unchanged and every
    counter at zero. Its program is the idealized one's text, whose run is proved for any float values. -/
theorem frame_kernel : Cert.quiescent_Kernel := by
  intro m ρ _
  rw [tables_eq]
  exact (θ_run Cert.KernelIdeal.defs _ _).mono
    (fun _ h => ⟨fun c => (h.1 c (0 : Fin 2)).trans (Cert.Exchange.finalA_x (F := Bits) m ρ c), h.2⟩)
    (Cert.Exchange.run_main (F := Bits) m ρ)

/-- The same of the idealized kernel. -/
theorem frame_kernelIdeal : Cert.quiescent_KernelIdeal := fun m ρ _ =>
  (θ_run Cert.KernelIdeal.defs _ _).mono
    (fun _ h => ⟨fun c => (h.1 c (0 : Fin 2)).trans (Cert.Exchange.finalA_x m ρ c), h.2⟩)
    (Cert.Exchange.run_main m ρ)

/-- The same of the reference, which has no counters. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- Every device's result is its block of the reference's sum, over the extended reals. -/
theorem value : Cert.algebraic_KernelIdeal_ReferenceIdeal := by
  intro m ρ m' ρ' _ hagree
  refine ⟨_, ?_, (θ_run Cert.ReferenceIdeal.defs _ _).mono (fun _ h => h 0) (Cert.ReferenceIdeal.Value.run m' ρ')⟩
  refine (θ_run Cert.KernelIdeal.defs _ _).mono (fun _ h c => ⟨?_, (h.1 c (0 : Fin 2)).trans (Cert.Exchange.finalA_x m ρ c)⟩)
    (Cert.Exchange.run_main m ρ)
  exact (h.1 c (1 : Fin 2)).trans ((Cert.Exchange.finalA_out m ρ c).trans (Cert.Exchange.out_block _ _ hagree c))

/-- All the claims together. -/
theorem claim : Cert.Claim :=
  ⟨Cert.Kernel.Gen.facts, Cert.KernelIdeal.Gen.facts, Cert.ReferenceIdeal.Gen.facts,
    frame_kernel, frame_kernelIdeal, frame_reference, trivial, value⟩

end Cert.Proof

end
